-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S524288x190 : Shape := ⟨2, ![524288, 190]⟩
abbrev S524288 : Shape := ⟨1, ![524288]⟩
abbrev S_ : Shape := ⟨0, ![]⟩

class Facts : Prop where
  bcast_S_S524288 : S_.BroadcastsInDim S524288 (![] : Fin 0 → Fin S524288.rank)
  reducesTo_S524288_S_d0 : S524288.ReducesTo [0] S_
  h_S_ : 0 < S_.numel

variable [Facts]

def fn {F : FTy → Type} [FloatOps F] (main_arg0 : FVec F S524288x190 .f32) (main_arg1 : IVec S524288 32) : IVec S_ 1 :=
  let main_c : IVec S_ 32 := constantI S_ 32 0#32
  let main_v0 : IVec S524288 32 := broadcastInDim S524288 ![] bcast_S_S524288 main_c
  let main_v1 : IVec S524288 1 := cmpi .sge main_arg1 main_v0
  let main_c_0 : IVec S_ 32 := constantI S_ 32 190#32
  let main_v2 : IVec S524288 32 := broadcastInDim S524288 ![] bcast_S_S524288 main_c_0
  let main_v3 : IVec S524288 1 := cmpi .slt main_arg1 main_v2
  let main_v4 : IVec S524288 1 := andi main_v1 main_v3
  let main_c_1 : IVec S_ 32 := constantI S_ 32 255#32
  let main_v5 : IVec S524288 32 := broadcastInDim S524288 ![] bcast_S_S524288 main_c_1
  let main_v6 : IVec S524288 1 := cmpi .eq main_arg1 main_v5
  let main_v7 : IVec S524288 1 := ori main_v4 main_v6
  let main_c_2 : IVec S_ 1 := constantI S_ 1 1#1
  let main_v8 : IVec S_ 1 := (fun x v => Host.reduce IntOp.andi x v reducesTo_S524288_S_d0 h_S_) main_v7 main_c_2
  main_v8
-- ==== Kernel.lean ====
abbrev S524288x190 : Shape := ⟨2, ![524288, 190]⟩
abbrev S524288 : Shape := ⟨1, ![524288]⟩
abbrev S_ : Shape := ⟨0, ![]⟩
abbrev S190x524288 : Shape := ⟨2, ![190, 524288]⟩
abbrev S6225920x16 : Shape := ⟨2, ![6225920, 16]⟩
abbrev S32x16 : Shape := ⟨2, ![32, 16]⟩
abbrev S16384 : Shape := ⟨1, ![16384]⟩
abbrev S128x16 : Shape := ⟨2, ![128, 16]⟩
abbrev S16 : Shape := ⟨1, ![16]⟩
abbrev S128 : Shape := ⟨1, ![128]⟩
abbrev S1x16 : Shape := ⟨2, ![1, 16]⟩

abbrev nBuf : Table → Nat
  | .hbm => 43
  | .local .scVector .vmem => 12
  | _ => 0

abbrev bufTy : (tb : Table) → Fin (nBuf tb) → BufTy
  | .hbm, ⟨0, _⟩ => ⟨S524288x190, .f32⟩
  | .hbm, ⟨1, _⟩ => ⟨S524288, .i32⟩
  | .hbm, ⟨2, _⟩ => ⟨S_, .i32⟩
  | .hbm, ⟨3, _⟩ => ⟨S524288, .i32⟩
  | .hbm, ⟨4, _⟩ => ⟨S524288, .i1⟩
  | .hbm, ⟨5, _⟩ => ⟨S_, .i32⟩
  | .hbm, ⟨6, _⟩ => ⟨S_, .i32⟩
  | .hbm, ⟨7, _⟩ => ⟨S524288, .i32⟩
  | .hbm, ⟨8, _⟩ => ⟨S524288, .i32⟩
  | .hbm, ⟨9, _⟩ => ⟨S190x524288, .f32⟩
  | .hbm, ⟨10, _⟩ => ⟨S6225920x16, .f32⟩
  | .hbm, ⟨11, _⟩ => ⟨S_, .i32⟩
  | .hbm, ⟨12, _⟩ => ⟨S524288, .i32⟩
  | .hbm, ⟨13, _⟩ => ⟨S524288, .i32⟩
  | .hbm, ⟨14, _⟩ => ⟨S524288, .i32⟩
  | .hbm, ⟨15, _⟩ => ⟨S_, .i32⟩
  | .hbm, ⟨16, _⟩ => ⟨S_, .i32⟩
  | .hbm, ⟨17, _⟩ => ⟨S524288, .i32⟩
  | .hbm, ⟨18, _⟩ => ⟨S524288, .i32⟩
  | .hbm, ⟨19, _⟩ => ⟨S524288, .i32⟩
  | .hbm, ⟨20, _⟩ => ⟨S_, .i32⟩
  | .hbm, ⟨21, _⟩ => ⟨S524288, .i32⟩
  | .hbm, ⟨22, _⟩ => ⟨S524288, .i1⟩
  | .hbm, ⟨23, _⟩ => ⟨S524288, .i32⟩
  | .hbm, ⟨24, _⟩ => ⟨S524288, .i32⟩
  | .hbm, ⟨25, _⟩ => ⟨S_, .i32⟩
  | .hbm, ⟨26, _⟩ => ⟨S524288, .i32⟩
  | .hbm, ⟨27, _⟩ => ⟨S524288, .i1⟩
  | .hbm, ⟨28, _⟩ => ⟨S524288, .i1⟩
  | .hbm, ⟨29, _⟩ => ⟨S_, .i32⟩
  | .hbm, ⟨30, _⟩ => ⟨S524288, .i32⟩
  | .hbm, ⟨31, _⟩ => ⟨S524288, .i32⟩
  | .hbm, ⟨32, _⟩ => ⟨S524288, .i32⟩
  | .hbm, ⟨33, _⟩ => ⟨S524288, .i32⟩
  | .hbm, ⟨34, _⟩ => ⟨S32x16, .f32⟩
  | .hbm, ⟨35, _⟩ => ⟨S32x16, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .local .scVector .vmem, ⟨0, _⟩ => ⟨S16384, .i32⟩
  | .local .scVector .vmem, ⟨1, _⟩ => ⟨S16384, .i32⟩
  | .local .scVector .vmem, ⟨2, _⟩ => ⟨S128x16, .f32⟩
  | .local .scVector .vmem, ⟨3, _⟩ => ⟨S128x16, .f32⟩
  | .local .scVector .vmem, ⟨4, _⟩ => ⟨S128x16, .f32⟩
  | .local .scVector .vmem, ⟨5, _⟩ => ⟨S128x16, .f32⟩
  | .local .scVector .vmem, ⟨6, _⟩ => ⟨S128x16, .f32⟩
  | .local .scVector .vmem, ⟨7, _⟩ => ⟨S128x16, .f32⟩
  | .local .scVector .vmem, ⟨8, _⟩ => ⟨S128x16, .f32⟩
  | .local .scVector .vmem, ⟨9, _⟩ => ⟨S128x16, .f32⟩
  | .local .scVector .vmem, ⟨10, _⟩ => ⟨S16, .f32⟩
  | .local .scVector .vmem, ⟨11, _⟩ => ⟨S16, .f32⟩
  | _, _ => ⟨S524288x190, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_2 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_call1_v5 : Ref sig .tc := ⟨.hbm, 21, rfl⟩
abbrev main_call1_v6 : Ref sig .tc := ⟨.hbm, 22, rfl⟩
abbrev main_call1_v7 : Ref sig .tc := ⟨.hbm, 23, rfl⟩
abbrev main_call1_v8 : Ref sig .tc := ⟨.hbm, 24, rfl⟩
abbrev main_call1_c : Ref sig .tc := ⟨.hbm, 25, rfl⟩
abbrev main_call1_v9 : Ref sig .tc := ⟨.hbm, 26, rfl⟩
abbrev main_call1_v10 : Ref sig .tc := ⟨.hbm, 27, rfl⟩
abbrev main_call1_v11 : Ref sig .tc := ⟨.hbm, 28, rfl⟩
abbrev main_call1_c_0 : Ref sig .tc := ⟨.hbm, 29, rfl⟩
abbrev main_call1_v12 : Ref sig .tc := ⟨.hbm, 30, rfl⟩
abbrev main_call1_v13 : Ref sig .tc := ⟨.hbm, 31, rfl⟩
abbrev main_v8 : Ref sig .tc := ⟨.hbm, 32, rfl⟩
abbrev main_v9 : Ref sig .tc := ⟨.hbm, 33, rfl⟩
abbrev main_v10_0 : Ref sig .tc := ⟨.hbm, 34, rfl⟩
abbrev main_v10_1 : Ref sig .tc := ⟨.hbm, 35, rfl⟩
abbrev main_cst : Ref sig .tc := ⟨.hbm, 36, rfl⟩
abbrev main_v11 : Ref sig .tc := ⟨.hbm, 37, rfl⟩
abbrev main_cst_3 : Ref sig .tc := ⟨.hbm, 38, rfl⟩
abbrev main_v12 : Ref sig .tc := ⟨.hbm, 39, rfl⟩
abbrev main_cst_4 : Ref sig .tc := ⟨.hbm, 40, rfl⟩
abbrev main_v13 : Ref sig .tc := ⟨.hbm, 41, rfl⟩
abbrev main_v14 : Ref sig .tc := ⟨.hbm, 42, rfl⟩
abbrev main_v4_scv : Ref sig .scVector := ⟨.hbm, 10, rfl⟩
abbrev main_v9_scv : Ref sig .scVector := ⟨.hbm, 33, rfl⟩
abbrev main_arg1_scv : Ref sig .scVector := ⟨.hbm, 1, rfl⟩
abbrev main_v10_0_scv : Ref sig .scVector := ⟨.hbm, 34, rfl⟩
abbrev main_v10_1_scv : Ref sig .scVector := ⟨.hbm, 35, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev cc0_scratch11 : Ref sig .scVector := ⟨.vmem, 11, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16384_i32 : BitVec 32 := 16384#32
  let v2 : BitVec 32 := Scalar.muli v1 c16384_i32
  ![v2.toNat]
@[reducible] def k0_t1_loop : Scf.Loop 32 :=
  let c0_i32_16 : BitVec 32 := 0#32
  let c16_i32 : BitVec 32 := 16#32
  let v21 : BitVec 32 := Scalar.addi c0_i32_16 c16_i32
  let c1_i32 : BitVec 32 := 1#32
  ⟨c0_i32_16, v21, c1_i32⟩
def k0_off2 (k0_t1 : Fin k0_t1_loop.trips) : Fin 1 → Nat :=
  let c0_i32_16 : BitVec 32 := 0#32
  let c1_i32 : BitVec 32 := 1#32
  let arg27 : BitVec 32 := Scf.iv c0_i32_16 c1_i32 k0_t1
  let c8_i32 : BitVec 32 := 8#32
  let v25 : BitVec 32 := Scalar.muli arg27 c8_i32
  let c0_i32_19 : BitVec 32 := 0#32
  let v26 : BitVec 32 := Scalar.addi v25 c0_i32_19
  let c128_i32_20 : BitVec 32 := 128#32
  let v27 : BitVec 32 := Scalar.muli v26 c128_i32_20
  ![v27.toNat]
@[reducible] def k0_t2_loop : Scf.Loop 32 :=
  let c0_i32_24 : BitVec 32 := 0#32
  let c8_i32_25 : BitVec 32 := 8#32
  let v31 : BitVec 32 := Scalar.addi c0_i32_24 c8_i32_25
  let c1_i32_26 : BitVec 32 := 1#32
  ⟨c0_i32_24, v31, c1_i32_26⟩
def k0_off3 (k0_t1 : Fin k0_t1_loop.trips) (k0_t2 : Fin k0_t2_loop.trips) : Fin 1 → Nat :=
  let c0_i32_16 : BitVec 32 := 0#32
  let c1_i32 : BitVec 32 := 1#32
  let arg27 : BitVec 32 := Scf.iv c0_i32_16 c1_i32 k0_t1
  let c8_i32 : BitVec 32 := 8#32
  let v25 : BitVec 32 := Scalar.muli arg27 c8_i32
  let c0_i32_23 : BitVec 32 := 0#32
  let v30 : BitVec 32 := Scalar.addi v25 c0_i32_23
  let c128_i32_118 : BitVec 32 := 128#32
  let v122 : BitVec 32 := Scalar.muli v30 c128_i32_118
  let c0_i32_24 : BitVec 32 := 0#32
  let c1_i32_26 : BitVec 32 := 1#32
  let arg30 : BitVec 32 := Scf.iv c0_i32_24 c1_i32_26 k0_t2
  let c16_i32_119 : BitVec 32 := 16#32
  let v123 : BitVec 32 := Scalar.muli arg30 c16_i32_119
  let v124 : BitVec 32 := Scalar.addi v122 v123
  let v125 : Index := Scalar.indexCast v124
  ![v125.toNat]

def k0_chk1 (v3 : IVec S16 32) (v129 : IVec S16 32) : Prop :=
  (∀ a x, ((![v129, v3] : Fin 2 → IVec S16 32) a x).toNat < S128x16.size a)
theorem k0_idx1_inb : ∀ (v3 : IVec S16 32) (v129 : IVec S16 32) (k0_hw1 : k0_chk1 v3 v129), ∀ a x, ((![v129, v3] : Fin 2 → IVec S16 32) a x).toNat < S128x16.size a := fun v3 v129 k0_hw1 => k0_hw1
def k0_cond1 (k0_t1 : Fin k0_t1_loop.trips) : BitVec 1 :=
  let c0_i32_16 : BitVec 32 := 0#32
  let c1_i32 : BitVec 32 := 1#32
  let arg27 : BitVec 32 := Scf.iv c0_i32_16 c1_i32 k0_t1
  let c8_i32 : BitVec 32 := 8#32
  let v25 : BitVec 32 := Scalar.muli arg27 c8_i32
  let c0_i32_28 : BitVec 32 := 0#32
  let v33 : BitVec 32 := Scalar.addi v25 c0_i32_28
  let c8_i32_29 : BitVec 32 := 8#32
  let v34 : BitVec 32 := Scalar.addi v33 c8_i32_29
  let c128_i32_30 : BitVec 32 := 128#32
  let v35 : BitVec 1 := Scalar.cmpi .slt v34 c128_i32_30
  let v36 : BitVec 32 := Scalar.extui v35
  let c0_i32_31 : BitVec 32 := 0#32
  let v37 : BitVec 1 := Scalar.cmpi .ne v36 c0_i32_31
  v37

def k0_off4 (k0_t1 : Fin k0_t1_loop.trips) : Fin 1 → Nat :=
  let c0_i32_16 : BitVec 32 := 0#32
  let c1_i32 : BitVec 32 := 1#32
  let arg27 : BitVec 32 := Scf.iv c0_i32_16 c1_i32 k0_t1
  let c8_i32 : BitVec 32 := 8#32
  let v25 : BitVec 32 := Scalar.muli arg27 c8_i32
  let c0_i32_118 : BitVec 32 := 0#32
  let v122 : BitVec 32 := Scalar.addi v25 c0_i32_118
  let c8_i32_119 : BitVec 32 := 8#32
  let v123 : BitVec 32 := Scalar.addi v122 c8_i32_119
  let c128_i32_120 : BitVec 32 := 128#32
  let v124 : BitVec 32 := Scalar.muli v123 c128_i32_120
  ![v124.toNat]
def k0_off5 (k0_t1 : Fin k0_t1_loop.trips) (c1_i32_32 : BitVec 32) : Fin 1 → Nat :=
  let c0_i32_16 : BitVec 32 := 0#32
  let c1_i32 : BitVec 32 := 1#32
  let arg27 : BitVec 32 := Scf.iv c0_i32_16 c1_i32 k0_t1
  let c8_i32 : BitVec 32 := 8#32
  let v25 : BitVec 32 := Scalar.muli arg27 c8_i32
  let v38 : BitVec 32 := Scalar.addi v25 c1_i32_32
  let c128_i32_33 : BitVec 32 := 128#32
  let v39 : BitVec 32 := Scalar.muli v38 c128_i32_33
  ![v39.toNat]
@[reducible] def k0_t3_loop : Scf.Loop 32 :=
  let c0_i32_37 : BitVec 32 := 0#32
  let c8_i32_38 : BitVec 32 := 8#32
  let v43 : BitVec 32 := Scalar.addi c0_i32_37 c8_i32_38
  let c1_i32_39 : BitVec 32 := 1#32
  ⟨c0_i32_37, v43, c1_i32_39⟩
def k0_off6 (k0_t1 : Fin k0_t1_loop.trips) (k0_t3 : Fin k0_t3_loop.trips) : Fin 1 → Nat :=
  let c0_i32_16 : BitVec 32 := 0#32
  let c1_i32 : BitVec 32 := 1#32
  let arg27 : BitVec 32 := Scf.iv c0_i32_16 c1_i32 k0_t1
  let c8_i32 : BitVec 32 := 8#32
  let v25 : BitVec 32 := Scalar.muli arg27 c8_i32
  let c1_i32_36 : BitVec 32 := 1#32
  let v42 : BitVec 32 := Scalar.addi v25 c1_i32_36
  let c128_i32_118 : BitVec 32 := 128#32
  let v122 : BitVec 32 := Scalar.muli v42 c128_i32_118
  let c0_i32_37 : BitVec 32 := 0#32
  let c1_i32_39 : BitVec 32 := 1#32
  let arg30 : BitVec 32 := Scf.iv c0_i32_37 c1_i32_39 k0_t3
  let c16_i32_119 : BitVec 32 := 16#32
  let v123 : BitVec 32 := Scalar.muli arg30 c16_i32_119
  let v124 : BitVec 32 := Scalar.addi v122 v123
  let v125 : Index := Scalar.indexCast v124
  ![v125.toNat]

def k0_chk2 (v3 : IVec S16 32) (v129 : IVec S16 32) : Prop :=
  (∀ a x, ((![v129, v3] : Fin 2 → IVec S16 32) a x).toNat < S128x16.size a)
theorem k0_idx2_inb : ∀ (v3 : IVec S16 32) (v129 : IVec S16 32) (k0_hw2 : k0_chk2 v3 v129), ∀ a x, ((![v129, v3] : Fin 2 → IVec S16 32) a x).toNat < S128x16.size a := fun v3 v129 k0_hw2 => k0_hw2
def k0_cond2 (k0_t1 : Fin k0_t1_loop.trips) : BitVec 1 :=
  let c0_i32_16 : BitVec 32 := 0#32
  let c1_i32 : BitVec 32 := 1#32
  let arg27 : BitVec 32 := Scf.iv c0_i32_16 c1_i32 k0_t1
  let c8_i32 : BitVec 32 := 8#32
  let v25 : BitVec 32 := Scalar.muli arg27 c8_i32
  let c1_i32_41 : BitVec 32 := 1#32
  let v45 : BitVec 32 := Scalar.addi v25 c1_i32_41
  let c8_i32_42 : BitVec 32 := 8#32
  let v46 : BitVec 32 := Scalar.addi v45 c8_i32_42
  let c128_i32_43 : BitVec 32 := 128#32
  let v47 : BitVec 1 := Scalar.cmpi .slt v46 c128_i32_43
  let v48 : BitVec 32 := Scalar.extui v47
  let c0_i32_44 : BitVec 32 := 0#32
  let v49 : BitVec 1 := Scalar.cmpi .ne v48 c0_i32_44
  v49

def k0_off7 (k0_t1 : Fin k0_t1_loop.trips) : Fin 1 → Nat :=
  let c0_i32_16 : BitVec 32 := 0#32
  let c1_i32 : BitVec 32 := 1#32
  let arg27 : BitVec 32 := Scf.iv c0_i32_16 c1_i32 k0_t1
  let c8_i32 : BitVec 32 := 8#32
  let v25 : BitVec 32 := Scalar.muli arg27 c8_i32
  let c1_i32_118 : BitVec 32 := 1#32
  let v122 : BitVec 32 := Scalar.addi v25 c1_i32_118
  let c8_i32_119 : BitVec 32 := 8#32
  let v123 : BitVec 32 := Scalar.addi v122 c8_i32_119
  let c128_i32_120 : BitVec 32 := 128#32
  let v124 : BitVec 32 := Scalar.muli v123 c128_i32_120
  ![v124.toNat]
@[reducible] def k0_t4_loop : Scf.Loop 32 :=
  let c0_i32_50 : BitVec 32 := 0#32
  let c8_i32_51 : BitVec 32 := 8#32
  let v55 : BitVec 32 := Scalar.addi c0_i32_50 c8_i32_51
  let c1_i32_52 : BitVec 32 := 1#32
  ⟨c0_i32_50, v55, c1_i32_52⟩
def k0_off8 (k0_t1 : Fin k0_t1_loop.trips) (k0_t4 : Fin k0_t4_loop.trips) : Fin 1 → Nat :=
  let c0_i32_16 : BitVec 32 := 0#32
  let c1_i32 : BitVec 32 := 1#32
  let arg27 : BitVec 32 := Scf.iv c0_i32_16 c1_i32 k0_t1
  let c8_i32 : BitVec 32 := 8#32
  let v25 : BitVec 32 := Scalar.muli arg27 c8_i32
  let c2_i32_49 : BitVec 32 := 2#32
  let v54 : BitVec 32 := Scalar.addi v25 c2_i32_49
  let c128_i32_118 : BitVec 32 := 128#32
  let v122 : BitVec 32 := Scalar.muli v54 c128_i32_118
  let c0_i32_50 : BitVec 32 := 0#32
  let c1_i32_52 : BitVec 32 := 1#32
  let arg30 : BitVec 32 := Scf.iv c0_i32_50 c1_i32_52 k0_t4
  let c16_i32_119 : BitVec 32 := 16#32
  let v123 : BitVec 32 := Scalar.muli arg30 c16_i32_119
  let v124 : BitVec 32 := Scalar.addi v122 v123
  let v125 : Index := Scalar.indexCast v124
  ![v125.toNat]

def k0_chk3 (v3 : IVec S16 32) (v129 : IVec S16 32) : Prop :=
  (∀ a x, ((![v129, v3] : Fin 2 → IVec S16 32) a x).toNat < S128x16.size a)
theorem k0_idx3_inb : ∀ (v3 : IVec S16 32) (v129 : IVec S16 32) (k0_hw3 : k0_chk3 v3 v129), ∀ a x, ((![v129, v3] : Fin 2 → IVec S16 32) a x).toNat < S128x16.size a := fun v3 v129 k0_hw3 => k0_hw3
def k0_cond3 (k0_t1 : Fin k0_t1_loop.trips) : BitVec 1 :=
  let c0_i32_16 : BitVec 32 := 0#32
  let c1_i32 : BitVec 32 := 1#32
  let arg27 : BitVec 32 := Scf.iv c0_i32_16 c1_i32 k0_t1
  let c8_i32 : BitVec 32 := 8#32
  let v25 : BitVec 32 := Scalar.muli arg27 c8_i32
  let c2_i32_54 : BitVec 32 := 2#32
  let v57 : BitVec 32 := Scalar.addi v25 c2_i32_54
  let c8_i32_55 : BitVec 32 := 8#32
  let v58 : BitVec 32 := Scalar.addi v57 c8_i32_55
  let c128_i32_56 : BitVec 32 := 128#32
  let v59 : BitVec 1 := Scalar.cmpi .slt v58 c128_i32_56
  let v60 : BitVec 32 := Scalar.extui v59
  let c0_i32_57 : BitVec 32 := 0#32
  let v61 : BitVec 1 := Scalar.cmpi .ne v60 c0_i32_57
  v61

def k0_off9 (k0_t1 : Fin k0_t1_loop.trips) : Fin 1 → Nat :=
  let c0_i32_16 : BitVec 32 := 0#32
  let c1_i32 : BitVec 32 := 1#32
  let arg27 : BitVec 32 := Scf.iv c0_i32_16 c1_i32 k0_t1
  let c8_i32 : BitVec 32 := 8#32
  let v25 : BitVec 32 := Scalar.muli arg27 c8_i32
  let c2_i32_118 : BitVec 32 := 2#32
  let v122 : BitVec 32 := Scalar.addi v25 c2_i32_118
  let c8_i32_119 : BitVec 32 := 8#32
  let v123 : BitVec 32 := Scalar.addi v122 c8_i32_119
  let c128_i32_120 : BitVec 32 := 128#32
  let v124 : BitVec 32 := Scalar.muli v123 c128_i32_120
  ![v124.toNat]
@[reducible] def k0_t5_loop : Scf.Loop 32 :=
  let c0_i32_62 : BitVec 32 := 0#32
  let c8_i32_63 : BitVec 32 := 8#32
  let v67 : BitVec 32 := Scalar.addi c0_i32_62 c8_i32_63
  let c1_i32_64 : BitVec 32 := 1#32
  ⟨c0_i32_62, v67, c1_i32_64⟩
def k0_off10 (k0_t1 : Fin k0_t1_loop.trips) (k0_t5 : Fin k0_t5_loop.trips) : Fin 1 → Nat :=
  let c0_i32_16 : BitVec 32 := 0#32
  let c1_i32 : BitVec 32 := 1#32
  let arg27 : BitVec 32 := Scf.iv c0_i32_16 c1_i32 k0_t1
  let c8_i32 : BitVec 32 := 8#32
  let v25 : BitVec 32 := Scalar.muli arg27 c8_i32
  let c3_i32_61 : BitVec 32 := 3#32
  let v66 : BitVec 32 := Scalar.addi v25 c3_i32_61
  let c128_i32_118 : BitVec 32 := 128#32
  let v122 : BitVec 32 := Scalar.muli v66 c128_i32_118
  let c0_i32_62 : BitVec 32 := 0#32
  let c1_i32_64 : BitVec 32 := 1#32
  let arg30 : BitVec 32 := Scf.iv c0_i32_62 c1_i32_64 k0_t5
  let c16_i32_119 : BitVec 32 := 16#32
  let v123 : BitVec 32 := Scalar.muli arg30 c16_i32_119
  let v124 : BitVec 32 := Scalar.addi v122 v123
  let v125 : Index := Scalar.indexCast v124
  ![v125.toNat]

def k0_chk4 (v3 : IVec S16 32) (v129 : IVec S16 32) : Prop :=
  (∀ a x, ((![v129, v3] : Fin 2 → IVec S16 32) a x).toNat < S128x16.size a)
theorem k0_idx4_inb : ∀ (v3 : IVec S16 32) (v129 : IVec S16 32) (k0_hw4 : k0_chk4 v3 v129), ∀ a x, ((![v129, v3] : Fin 2 → IVec S16 32) a x).toNat < S128x16.size a := fun v3 v129 k0_hw4 => k0_hw4
def k0_cond4 (k0_t1 : Fin k0_t1_loop.trips) : BitVec 1 :=
  let c0_i32_16 : BitVec 32 := 0#32
  let c1_i32 : BitVec 32 := 1#32
  let arg27 : BitVec 32 := Scf.iv c0_i32_16 c1_i32 k0_t1
  let c8_i32 : BitVec 32 := 8#32
  let v25 : BitVec 32 := Scalar.muli arg27 c8_i32
  let c3_i32_66 : BitVec 32 := 3#32
  let v69 : BitVec 32 := Scalar.addi v25 c3_i32_66
  let c8_i32_67 : BitVec 32 := 8#32
  let v70 : BitVec 32 := Scalar.addi v69 c8_i32_67
  let c128_i32_68 : BitVec 32 := 128#32
  let v71 : BitVec 1 := Scalar.cmpi .slt v70 c128_i32_68
  let v72 : BitVec 32 := Scalar.extui v71
  let c0_i32_69 : BitVec 32 := 0#32
  let v73 : BitVec 1 := Scalar.cmpi .ne v72 c0_i32_69
  v73

def k0_off11 (k0_t1 : Fin k0_t1_loop.trips) : Fin 1 → Nat :=
  let c0_i32_16 : BitVec 32 := 0#32
  let c1_i32 : BitVec 32 := 1#32
  let arg27 : BitVec 32 := Scf.iv c0_i32_16 c1_i32 k0_t1
  let c8_i32 : BitVec 32 := 8#32
  let v25 : BitVec 32 := Scalar.muli arg27 c8_i32
  let c3_i32_118 : BitVec 32 := 3#32
  let v122 : BitVec 32 := Scalar.addi v25 c3_i32_118
  let c8_i32_119 : BitVec 32 := 8#32
  let v123 : BitVec 32 := Scalar.addi v122 c8_i32_119
  let c128_i32_120 : BitVec 32 := 128#32
  let v124 : BitVec 32 := Scalar.muli v123 c128_i32_120
  ![v124.toNat]
@[reducible] def k0_t6_loop : Scf.Loop 32 :=
  let c0_i32_74 : BitVec 32 := 0#32
  let c8_i32_75 : BitVec 32 := 8#32
  let v79 : BitVec 32 := Scalar.addi c0_i32_74 c8_i32_75
  let c1_i32_76 : BitVec 32 := 1#32
  ⟨c0_i32_74, v79, c1_i32_76⟩
def k0_off12 (k0_t1 : Fin k0_t1_loop.trips) (k0_t6 : Fin k0_t6_loop.trips) : Fin 1 → Nat :=
  let c0_i32_16 : BitVec 32 := 0#32
  let c1_i32 : BitVec 32 := 1#32
  let arg27 : BitVec 32 := Scf.iv c0_i32_16 c1_i32 k0_t1
  let c8_i32 : BitVec 32 := 8#32
  let v25 : BitVec 32 := Scalar.muli arg27 c8_i32
  let c4_i32_73 : BitVec 32 := 4#32
  let v78 : BitVec 32 := Scalar.addi v25 c4_i32_73
  let c128_i32_118 : BitVec 32 := 128#32
  let v122 : BitVec 32 := Scalar.muli v78 c128_i32_118
  let c0_i32_74 : BitVec 32 := 0#32
  let c1_i32_76 : BitVec 32 := 1#32
  let arg30 : BitVec 32 := Scf.iv c0_i32_74 c1_i32_76 k0_t6
  let c16_i32_119 : BitVec 32 := 16#32
  let v123 : BitVec 32 := Scalar.muli arg30 c16_i32_119
  let v124 : BitVec 32 := Scalar.addi v122 v123
  let v125 : Index := Scalar.indexCast v124
  ![v125.toNat]

def k0_chk5 (v3 : IVec S16 32) (v129 : IVec S16 32) : Prop :=
  (∀ a x, ((![v129, v3] : Fin 2 → IVec S16 32) a x).toNat < S128x16.size a)
theorem k0_idx5_inb : ∀ (v3 : IVec S16 32) (v129 : IVec S16 32) (k0_hw5 : k0_chk5 v3 v129), ∀ a x, ((![v129, v3] : Fin 2 → IVec S16 32) a x).toNat < S128x16.size a := fun v3 v129 k0_hw5 => k0_hw5
def k0_cond5 (k0_t1 : Fin k0_t1_loop.trips) : BitVec 1 :=
  let c0_i32_16 : BitVec 32 := 0#32
  let c1_i32 : BitVec 32 := 1#32
  let arg27 : BitVec 32 := Scf.iv c0_i32_16 c1_i32 k0_t1
  let c8_i32 : BitVec 32 := 8#32
  let v25 : BitVec 32 := Scalar.muli arg27 c8_i32
  let c4_i32_78 : BitVec 32 := 4#32
  let v81 : BitVec 32 := Scalar.addi v25 c4_i32_78
  let c8_i32_79 : BitVec 32 := 8#32
  let v82 : BitVec 32 := Scalar.addi v81 c8_i32_79
  let c128_i32_80 : BitVec 32 := 128#32
  let v83 : BitVec 1 := Scalar.cmpi .slt v82 c128_i32_80
  let v84 : BitVec 32 := Scalar.extui v83
  let c0_i32_81 : BitVec 32 := 0#32
  let v85 : BitVec 1 := Scalar.cmpi .ne v84 c0_i32_81
  v85

def k0_off13 (k0_t1 : Fin k0_t1_loop.trips) : Fin 1 → Nat :=
  let c0_i32_16 : BitVec 32 := 0#32
  let c1_i32 : BitVec 32 := 1#32
  let arg27 : BitVec 32 := Scf.iv c0_i32_16 c1_i32 k0_t1
  let c8_i32 : BitVec 32 := 8#32
  let v25 : BitVec 32 := Scalar.muli arg27 c8_i32
  let c4_i32_118 : BitVec 32 := 4#32
  let v122 : BitVec 32 := Scalar.addi v25 c4_i32_118
  let c8_i32_119 : BitVec 32 := 8#32
  let v123 : BitVec 32 := Scalar.addi v122 c8_i32_119
  let c128_i32_120 : BitVec 32 := 128#32
  let v124 : BitVec 32 := Scalar.muli v123 c128_i32_120
  ![v124.toNat]
@[reducible] def k0_t7_loop : Scf.Loop 32 :=
  let c0_i32_86 : BitVec 32 := 0#32
  let c8_i32_87 : BitVec 32 := 8#32
  let v91 : BitVec 32 := Scalar.addi c0_i32_86 c8_i32_87
  let c1_i32_88 : BitVec 32 := 1#32
  ⟨c0_i32_86, v91, c1_i32_88⟩
def k0_off14 (k0_t1 : Fin k0_t1_loop.trips) (k0_t7 : Fin k0_t7_loop.trips) : Fin 1 → Nat :=
  let c0_i32_16 : BitVec 32 := 0#32
  let c1_i32 : BitVec 32 := 1#32
  let arg27 : BitVec 32 := Scf.iv c0_i32_16 c1_i32 k0_t1
  let c8_i32 : BitVec 32 := 8#32
  let v25 : BitVec 32 := Scalar.muli arg27 c8_i32
  let c5_i32_85 : BitVec 32 := 5#32
  let v90 : BitVec 32 := Scalar.addi v25 c5_i32_85
  let c128_i32_118 : BitVec 32 := 128#32
  let v122 : BitVec 32 := Scalar.muli v90 c128_i32_118
  let c0_i32_86 : BitVec 32 := 0#32
  let c1_i32_88 : BitVec 32 := 1#32
  let arg30 : BitVec 32 := Scf.iv c0_i32_86 c1_i32_88 k0_t7
  let c16_i32_119 : BitVec 32 := 16#32
  let v123 : BitVec 32 := Scalar.muli arg30 c16_i32_119
  let v124 : BitVec 32 := Scalar.addi v122 v123
  let v125 : Index := Scalar.indexCast v124
  ![v125.toNat]

def k0_chk6 (v3 : IVec S16 32) (v129 : IVec S16 32) : Prop :=
  (∀ a x, ((![v129, v3] : Fin 2 → IVec S16 32) a x).toNat < S128x16.size a)
theorem k0_idx6_inb : ∀ (v3 : IVec S16 32) (v129 : IVec S16 32) (k0_hw6 : k0_chk6 v3 v129), ∀ a x, ((![v129, v3] : Fin 2 → IVec S16 32) a x).toNat < S128x16.size a := fun v3 v129 k0_hw6 => k0_hw6
def k0_cond6 (k0_t1 : Fin k0_t1_loop.trips) : BitVec 1 :=
  let c0_i32_16 : BitVec 32 := 0#32
  let c1_i32 : BitVec 32 := 1#32
  let arg27 : BitVec 32 := Scf.iv c0_i32_16 c1_i32 k0_t1
  let c8_i32 : BitVec 32 := 8#32
  let v25 : BitVec 32 := Scalar.muli arg27 c8_i32
  let c5_i32_90 : BitVec 32 := 5#32
  let v93 : BitVec 32 := Scalar.addi v25 c5_i32_90
  let c8_i32_91 : BitVec 32 := 8#32
  let v94 : BitVec 32 := Scalar.addi v93 c8_i32_91
  let c128_i32_92 : BitVec 32 := 128#32
  let v95 : BitVec 1 := Scalar.cmpi .slt v94 c128_i32_92
  let v96 : BitVec 32 := Scalar.extui v95
  let c0_i32_93 : BitVec 32 := 0#32
  let v97 : BitVec 1 := Scalar.cmpi .ne v96 c0_i32_93
  v97

def k0_off15 (k0_t1 : Fin k0_t1_loop.trips) : Fin 1 → Nat :=
  let c0_i32_16 : BitVec 32 := 0#32
  let c1_i32 : BitVec 32 := 1#32
  let arg27 : BitVec 32 := Scf.iv c0_i32_16 c1_i32 k0_t1
  let c8_i32 : BitVec 32 := 8#32
  let v25 : BitVec 32 := Scalar.muli arg27 c8_i32
  let c5_i32_118 : BitVec 32 := 5#32
  let v122 : BitVec 32 := Scalar.addi v25 c5_i32_118
  let c8_i32_119 : BitVec 32 := 8#32
  let v123 : BitVec 32 := Scalar.addi v122 c8_i32_119
  let c128_i32_120 : BitVec 32 := 128#32
  let v124 : BitVec 32 := Scalar.muli v123 c128_i32_120
  ![v124.toNat]
@[reducible] def k0_t8_loop : Scf.Loop 32 :=
  let c0_i32_98 : BitVec 32 := 0#32
  let c8_i32_99 : BitVec 32 := 8#32
  let v103 : BitVec 32 := Scalar.addi c0_i32_98 c8_i32_99
  let c1_i32_100 : BitVec 32 := 1#32
  ⟨c0_i32_98, v103, c1_i32_100⟩
def k0_off16 (k0_t1 : Fin k0_t1_loop.trips) (k0_t8 : Fin k0_t8_loop.trips) : Fin 1 → Nat :=
  let c0_i32_16 : BitVec 32 := 0#32
  let c1_i32 : BitVec 32 := 1#32
  let arg27 : BitVec 32 := Scf.iv c0_i32_16 c1_i32 k0_t1
  let c8_i32 : BitVec 32 := 8#32
  let v25 : BitVec 32 := Scalar.muli arg27 c8_i32
  let c6_i32_97 : BitVec 32 := 6#32
  let v102 : BitVec 32 := Scalar.addi v25 c6_i32_97
  let c128_i32_118 : BitVec 32 := 128#32
  let v122 : BitVec 32 := Scalar.muli v102 c128_i32_118
  let c0_i32_98 : BitVec 32 := 0#32
  let c1_i32_100 : BitVec 32 := 1#32
  let arg30 : BitVec 32 := Scf.iv c0_i32_98 c1_i32_100 k0_t8
  let c16_i32_119 : BitVec 32 := 16#32
  let v123 : BitVec 32 := Scalar.muli arg30 c16_i32_119
  let v124 : BitVec 32 := Scalar.addi v122 v123
  let v125 : Index := Scalar.indexCast v124
  ![v125.toNat]

def k0_chk7 (v3 : IVec S16 32) (v129 : IVec S16 32) : Prop :=
  (∀ a x, ((![v129, v3] : Fin 2 → IVec S16 32) a x).toNat < S128x16.size a)
theorem k0_idx7_inb : ∀ (v3 : IVec S16 32) (v129 : IVec S16 32) (k0_hw7 : k0_chk7 v3 v129), ∀ a x, ((![v129, v3] : Fin 2 → IVec S16 32) a x).toNat < S128x16.size a := fun v3 v129 k0_hw7 => k0_hw7
def k0_cond7 (k0_t1 : Fin k0_t1_loop.trips) : BitVec 1 :=
  let c0_i32_16 : BitVec 32 := 0#32
  let c1_i32 : BitVec 32 := 1#32
  let arg27 : BitVec 32 := Scf.iv c0_i32_16 c1_i32 k0_t1
  let c8_i32 : BitVec 32 := 8#32
  let v25 : BitVec 32 := Scalar.muli arg27 c8_i32
  let c6_i32_102 : BitVec 32 := 6#32
  let v105 : BitVec 32 := Scalar.addi v25 c6_i32_102
  let c8_i32_103 : BitVec 32 := 8#32
  let v106 : BitVec 32 := Scalar.addi v105 c8_i32_103
  let c128_i32_104 : BitVec 32 := 128#32
  let v107 : BitVec 1 := Scalar.cmpi .slt v106 c128_i32_104
  let v108 : BitVec 32 := Scalar.extui v107
  let c0_i32_105 : BitVec 32 := 0#32
  let v109 : BitVec 1 := Scalar.cmpi .ne v108 c0_i32_105
  v109

def k0_off17 (k0_t1 : Fin k0_t1_loop.trips) : Fin 1 → Nat :=
  let c0_i32_16 : BitVec 32 := 0#32
  let c1_i32 : BitVec 32 := 1#32
  let arg27 : BitVec 32 := Scf.iv c0_i32_16 c1_i32 k0_t1
  let c8_i32 : BitVec 32 := 8#32
  let v25 : BitVec 32 := Scalar.muli arg27 c8_i32
  let c6_i32_118 : BitVec 32 := 6#32
  let v122 : BitVec 32 := Scalar.addi v25 c6_i32_118
  let c8_i32_119 : BitVec 32 := 8#32
  let v123 : BitVec 32 := Scalar.addi v122 c8_i32_119
  let c128_i32_120 : BitVec 32 := 128#32
  let v124 : BitVec 32 := Scalar.muli v123 c128_i32_120
  ![v124.toNat]
@[reducible] def k0_t9_loop : Scf.Loop 32 :=
  let c0_i32_110 : BitVec 32 := 0#32
  let c8_i32_111 : BitVec 32 := 8#32
  let v115 : BitVec 32 := Scalar.addi c0_i32_110 c8_i32_111
  let c1_i32_112 : BitVec 32 := 1#32
  ⟨c0_i32_110, v115, c1_i32_112⟩
def k0_off18 (k0_t1 : Fin k0_t1_loop.trips) (k0_t9 : Fin k0_t9_loop.trips) : Fin 1 → Nat :=
  let c0_i32_16 : BitVec 32 := 0#32
  let c1_i32 : BitVec 32 := 1#32
  let arg27 : BitVec 32 := Scf.iv c0_i32_16 c1_i32 k0_t1
  let c8_i32 : BitVec 32 := 8#32
  let v25 : BitVec 32 := Scalar.muli arg27 c8_i32
  let c7_i32_109 : BitVec 32 := 7#32
  let v114 : BitVec 32 := Scalar.addi v25 c7_i32_109
  let c128_i32_118 : BitVec 32 := 128#32
  let v122 : BitVec 32 := Scalar.muli v114 c128_i32_118
  let c0_i32_110 : BitVec 32 := 0#32
  let c1_i32_112 : BitVec 32 := 1#32
  let arg30 : BitVec 32 := Scf.iv c0_i32_110 c1_i32_112 k0_t9
  let c16_i32_119 : BitVec 32 := 16#32
  let v123 : BitVec 32 := Scalar.muli arg30 c16_i32_119
  let v124 : BitVec 32 := Scalar.addi v122 v123
  let v125 : Index := Scalar.indexCast v124
  ![v125.toNat]

def k0_chk8 (v3 : IVec S16 32) (v129 : IVec S16 32) : Prop :=
  (∀ a x, ((![v129, v3] : Fin 2 → IVec S16 32) a x).toNat < S128x16.size a)
theorem k0_idx8_inb : ∀ (v3 : IVec S16 32) (v129 : IVec S16 32) (k0_hw8 : k0_chk8 v3 v129), ∀ a x, ((![v129, v3] : Fin 2 → IVec S16 32) a x).toNat < S128x16.size a := fun v3 v129 k0_hw8 => k0_hw8
def k0_cond8 (k0_t1 : Fin k0_t1_loop.trips) : BitVec 1 :=
  let c0_i32_16 : BitVec 32 := 0#32
  let c1_i32 : BitVec 32 := 1#32
  let arg27 : BitVec 32 := Scf.iv c0_i32_16 c1_i32 k0_t1
  let c8_i32 : BitVec 32 := 8#32
  let v25 : BitVec 32 := Scalar.muli arg27 c8_i32
  let c7_i32_114 : BitVec 32 := 7#32
  let v117 : BitVec 32 := Scalar.addi v25 c7_i32_114
  let c8_i32_115 : BitVec 32 := 8#32
  let v118 : BitVec 32 := Scalar.addi v117 c8_i32_115
  let c128_i32_116 : BitVec 32 := 128#32
  let v119 : BitVec 1 := Scalar.cmpi .slt v118 c128_i32_116
  let v120 : BitVec 32 := Scalar.extui v119
  let c0_i32_117 : BitVec 32 := 0#32
  let v121 : BitVec 1 := Scalar.cmpi .ne v120 c0_i32_117
  v121

def k0_off19 (k0_t1 : Fin k0_t1_loop.trips) : Fin 1 → Nat :=
  let c0_i32_16 : BitVec 32 := 0#32
  let c1_i32 : BitVec 32 := 1#32
  let arg27 : BitVec 32 := Scf.iv c0_i32_16 c1_i32 k0_t1
  let c8_i32 : BitVec 32 := 8#32
  let v25 : BitVec 32 := Scalar.muli arg27 c8_i32
  let c7_i32_118 : BitVec 32 := 7#32
  let v122 : BitVec 32 := Scalar.addi v25 c7_i32_118
  let c8_i32_119 : BitVec 32 := 8#32
  let v123 : BitVec 32 := Scalar.addi v122 c8_i32_119
  let c128_i32_120 : BitVec 32 := 128#32
  let v124 : BitVec 32 := Scalar.muli v123 c128_i32_120
  ![v124.toNat]
def k0_off20 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_19_r2 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S524288x190 : Shape := ⟨2, ![524288, 190]⟩
abbrev S524288 : Shape := ⟨1, ![524288]⟩
abbrev S_ : Shape := ⟨0, ![]⟩
abbrev S524288x1 : Shape := ⟨2, ![524288, 1]⟩
abbrev S524288x1x1 : Shape := ⟨3, ![524288, 1, 1]⟩
abbrev S1 : Shape := ⟨1, ![1]⟩
abbrev S1x1x1 : Shape := ⟨3, ![1, 1, 1]⟩

abbrev nBuf : Space → Nat
  | .hbm => 46
  | .vmem => 0
  | .smem => 0
  | _ => 0

abbrev bufTy : (tb : Table) → Fin (tcTables nBuf tb) → BufTy
  | .hbm, ⟨0, _⟩ => ⟨S524288x190, .f32⟩
  | .hbm, ⟨1, _⟩ => ⟨S524288, .i32⟩
  | .hbm, ⟨2, _⟩ => ⟨S_, .i32⟩
  | .hbm, ⟨3, _⟩ => ⟨S524288, .i32⟩
  | .hbm, ⟨4, _⟩ => ⟨S524288, .i1⟩
  | .hbm, ⟨5, _⟩ => ⟨S_, .i32⟩
  | .hbm, ⟨6, _⟩ => ⟨S_, .i32⟩
  | .hbm, ⟨7, _⟩ => ⟨S524288, .i32⟩
  | .hbm, ⟨8, _⟩ => ⟨S524288, .i32⟩
  | .hbm, ⟨9, _⟩ => ⟨S524288x1, .i32⟩
  | .hbm, ⟨10, _⟩ => ⟨S_, .i32⟩
  | .hbm, ⟨11, _⟩ => ⟨S524288x1, .i32⟩
  | .hbm, ⟨12, _⟩ => ⟨S524288x1, .i1⟩
  | .hbm, ⟨13, _⟩ => ⟨S_, .i32⟩
  | .hbm, ⟨14, _⟩ => ⟨S524288x1, .i32⟩
  | .hbm, ⟨15, _⟩ => ⟨S524288x1, .i32⟩
  | .hbm, ⟨16, _⟩ => ⟨S524288x1, .i32⟩
  | .hbm, ⟨17, _⟩ => ⟨S524288x1x1, .i32⟩
  | .hbm, ⟨18, _⟩ => ⟨S1, .i32⟩
  | .hbm, ⟨19, _⟩ => ⟨S_, .i32⟩
  | .hbm, ⟨20, _⟩ => ⟨S524288x1x1, .i32⟩
  | .hbm, ⟨21, _⟩ => ⟨S524288x1x1, .i1⟩
  | .hbm, ⟨22, _⟩ => ⟨S1x1x1, .i32⟩
  | .hbm, ⟨23, _⟩ => ⟨S524288x1x1, .i32⟩
  | .hbm, ⟨24, _⟩ => ⟨S524288x1x1, .i1⟩
  | .hbm, ⟨25, _⟩ => ⟨S524288x1x1, .i1⟩
  | .hbm, ⟨26, _⟩ => ⟨S_, .i1⟩
  | .hbm, ⟨27, _⟩ => ⟨S524288x1, .i1⟩
  | .hbm, ⟨28, _⟩ => ⟨S524288x1, .f32⟩
  | .hbm, ⟨29, _⟩ => ⟨S_, .f32⟩
  | .hbm, ⟨30, _⟩ => ⟨S524288x1, .f32⟩
  | .hbm, ⟨31, _⟩ => ⟨S524288x1, .f32⟩
  | .hbm, ⟨32, _⟩ => ⟨S524288, .f32⟩
  | .hbm, ⟨33, _⟩ => ⟨S_, .f32⟩
  | .hbm, ⟨34, _⟩ => ⟨S524288, .f32⟩
  | .hbm, ⟨35, _⟩ => ⟨S524288, .f32⟩
  | .hbm, ⟨36, _⟩ => ⟨S524288, .f32⟩
  | .hbm, ⟨37, _⟩ => ⟨S524288, .f32⟩
  | .hbm, ⟨38, _⟩ => ⟨S524288, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | _, _ => ⟨S524288x190, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_v2 : Ref sig .tc := ⟨.hbm, 8, rfl⟩
abbrev main_v3 : Ref sig .tc := ⟨.hbm, 9, rfl⟩
abbrev main_call1_c : Ref sig .tc := ⟨.hbm, 10, rfl⟩
abbrev main_call1_v0 : Ref sig .tc := ⟨.hbm, 11, rfl⟩
abbrev main_call1_v1 : Ref sig .tc := ⟨.hbm, 12, rfl⟩
abbrev main_call1_c_0 : Ref sig .tc := ⟨.hbm, 13, rfl⟩
abbrev main_call1_v2 : Ref sig .tc := ⟨.hbm, 14, rfl⟩
abbrev main_call1_v3 : Ref sig .tc := ⟨.hbm, 15, rfl⟩
abbrev main_call1_v4 : Ref sig .tc := ⟨.hbm, 16, rfl⟩
abbrev main_call1_v5 : Ref sig .tc := ⟨.hbm, 17, rfl⟩
abbrev main_call1_c_1 : Ref sig .tc := ⟨.hbm, 18, rfl⟩
abbrev main_call1_c_2 : Ref sig .tc := ⟨.hbm, 19, rfl⟩
abbrev main_call1_v6 : Ref sig .tc := ⟨.hbm, 20, rfl⟩
abbrev main_call1_v7 : Ref sig .tc := ⟨.hbm, 21, rfl⟩
abbrev main_call1_v8 : Ref sig .tc := ⟨.hbm, 22, rfl⟩
abbrev main_call1_v9 : Ref sig .tc := ⟨.hbm, 23, rfl⟩
abbrev main_call1_v10 : Ref sig .tc := ⟨.hbm, 24, rfl⟩
abbrev main_call1_v11 : Ref sig .tc := ⟨.hbm, 25, rfl⟩
abbrev main_call1_c_3 : Ref sig .tc := ⟨.hbm, 26, rfl⟩
abbrev main_call1_v12 : Ref sig .tc := ⟨.hbm, 27, rfl⟩
abbrev main_call1_v13 : Ref sig .tc := ⟨.hbm, 28, rfl⟩
abbrev main_call1_cst : Ref sig .tc := ⟨.hbm, 29, rfl⟩
abbrev main_call1_v14 : Ref sig .tc := ⟨.hbm, 30, rfl⟩
abbrev main_v4 : Ref sig .tc := ⟨.hbm, 31, rfl⟩
abbrev main_v5 : Ref sig .tc := ⟨.hbm, 32, rfl⟩
abbrev main_cst : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_cst_1 : Ref sig .tc := ⟨.hbm, 39, rfl⟩
abbrev main_v11 : Ref sig .tc := ⟨.hbm, 40, rfl⟩
abbrev main_cst_2 : Ref sig .tc := ⟨.hbm, 41, rfl⟩
abbrev main_v12 : Ref sig .tc := ⟨.hbm, 42, rfl⟩
abbrev main_cst_3 : Ref sig .tc := ⟨.hbm, 43, rfl⟩
abbrev main_v13 : Ref sig .tc := ⟨.hbm, 44, rfl⟩
abbrev main_v14 : Ref sig .tc := ⟨.hbm, 45, rfl⟩

abbrev nD : Nat := 1
abbrev τ : Topo := Topo.v7x

variable {F : FTy → Type} [FloatOps F]
-- ==== Proof.Spec.lean ====
/-
  What one task of the kernel computes, in the kernel's own order and arithmetic.

  The scores are laid out as a table of 6225920 rows of sixteen lanes. A task owns a strip of 16384 positions; for each
  it has a row number and a class label. It fetches the rows in blocks of 128, and then walks the positions sixteen at
  a time: lane `x` of trip `n` takes lane `x` of the row fetched for position `16 n + x`. Each trip adds to sixteen
  running sums the squared distance of the value from one, and to sixteen running counts a one, wherever the label is
  not the ignored one.
-/
module

public import Idealize.ShloMosaic.PureOps
public import Idealize.ShloMosaic.Lib.ValueIdx
public import Idealize.ShloMosaic.Lib.ValueIdxRank1

@[expose] public section

noncomputable section

namespace Cert.Proof.Spec

open Idealize.ShloMosaic Idealize.ShloMosaic.ValueIdx

/-- Sixteen lanes; a task's strip of words; all positions; the table; a fetched block; the outputs. -/
abbrev Lanes : Shape := ⟨1, ![16]⟩
abbrev Strip : Shape := ⟨1, ![16384]⟩
abbrev Positions : Shape := ⟨1, ![524288]⟩
abbrev Table : Shape := ⟨2, ![6225920, 16]⟩
abbrev Block : Shape := ⟨2, ![128, 16]⟩
abbrev Outs : Shape := ⟨2, ![32, 16]⟩

/-- Position `n` of a strip (past its end: wrapped, never used). -/
def spot (n : ℕ) : Fin 16384 := ⟨n % 16384, Nat.mod_lt _ (by decide)⟩

/-- The table row a word names (past the end: wrapped, never used). -/
def rowOf (w : BitVec 32) : Fin 6225920 := ⟨w.toNat % 6225920, Nat.mod_lt _ (by decide)⟩

theorem spot_val {n : ℕ} (h : n < 16384) : (spot n).val = n := Nat.mod_eq_of_lt h
theorem rowOf_val {w : BitVec 32} (h : w.toNat < 6225920) : (rowOf w).val = w.toNat := Nat.mod_eq_of_lt h

/-- Strip `w` of an array of all positions. -/
def strip {α : Type} (f : Positions.Idx → α) (w : Fin 32) : Strip.Idx → α :=
  fun x => f (ix1 ⟨16384 * w.val + (x 0).val, by have := w.isLt; have := (x 0).isLt; simp at this; omega⟩)

variable {F : FTy → Type} [FloatOps F]

/-- Block `b` of the rows a strip of row numbers names. -/
def fetched (tab : Table.Idx → F .f32) (fi : Strip.Idx → BitVec 32) (b : ℕ) : Block.Idx → F .f32 :=
  fun y => tab (ix2 (rowOf (fi (ix1 (spot (128 * b + (y 0).val))))) (y 1))

/-- The labels of trip `n`. -/
def labels (ft : Strip.Idx → BitVec 32) (n : ℕ) : Lanes.Idx → BitVec 32 := fun x => ft (ix1 (spot (16 * n + (x 0).val)))

/-- The values of trip `n`: lane `x` of the row fetched for position `16 n + x`. -/
def values (tab : Table.Idx → F .f32) (fi : Strip.Idx → BitVec 32) (n : ℕ) : Lanes.Idx → F .f32 :=
  fun x => tab (ix2 (rowOf (fi (ix1 (spot (16 * n + (x 0).val))))) (x 0))

/-- Which lanes count: the label is not 255. -/
def counted (t : IVec Lanes 32) : IVec Lanes 1 := cmpi .ne t (broadcast Lanes 255#32)

/-- One trip's addition to the sums: the squared distance from one where the lane counts. -/
def addSquare (a : FVec F Lanes .f32) (t : IVec Lanes 32) (v : FVec F Lanes .f32) : FVec F Lanes .f32 :=
  addf a (select (counted t)
    (mulf (subf (broadcast Lanes (Scalar.ofBits .f32 0x3F800000#32 : F .f32)) v) (subf (broadcast Lanes (Scalar.ofBits .f32 0x3F800000#32 : F .f32)) v))
    (broadcast Lanes (Scalar.ofBits .f32 0x00000000#32 : F .f32)))

/-- One trip's addition to the counts: a one where the lane counts. -/
def addOne (c : FVec F Lanes .f32) (t : IVec Lanes 32) : FVec F Lanes .f32 :=
  addf c (select (counted t) (broadcast Lanes (Scalar.ofBits .f32 0x3F800000#32 : F .f32)) (broadcast Lanes (Scalar.ofBits .f32 0x00000000#32 : F .f32)))

/-- The sums after `n` trips. -/
def sums (tab : Table.Idx → F .f32) (fi ft : Strip.Idx → BitVec 32) : ℕ → FVec F Lanes .f32
  | 0 => broadcast Lanes (Scalar.ofBits .f32 0x00000000#32 : F .f32)
  | n + 1 => addSquare (sums tab fi ft n) (labels ft n) (values tab fi n)

/-- The counts after `n` trips. -/
def counts (ft : Strip.Idx → BitVec 32) : ℕ → FVec F Lanes .f32
  | 0 => broadcast Lanes (Scalar.ofBits .f32 0x00000000#32 : F .f32)
  | n + 1 => addOne (counts ft n) (labels ft n)

/-- The two outputs: row `w` holds task `w`'s sums, and its counts, after its 1024 trips. -/
def outSums (tab : Table.Idx → F .f32) (rows labs : Positions.Idx → BitVec 32) : Outs.Idx → F .f32 :=
  fun y => sums tab (strip rows (y 0)) (strip labs (y 0)) 1024 (ix1 (y 1))
def outCounts (labs : Positions.Idx → BitVec 32) : Outs.Idx → F .f32 :=
  fun y => counts (strip labs (y 0)) 1024 (ix1 (y 1))

end Cert.Proof.Spec

end
-- ==== Proof.Words.lean ====
/-
  The words of a position: the class its label names, and its row of the table, as natural numbers.
-/
module

public import proofs.«01_k».proof.Proof.Spec
public import Idealize.ShloMosaic.Lib.Routing.Words

@[expose] public section

noncomputable section

namespace Cert.Proof.Spec

open Idealize.ShloMosaic Idealize.ShloMosaic.ValueIdx

abbrev Scalars : Shape := ⟨0, ![]⟩

/-- A label is one of 190 classes, or the ignored label 255. -/
def Labelled (t : BitVec 32) : Prop := t.toNat < 190 ∨ t = 255#32

/-- The class a label reads: its own, and class 0 for the ignored label. -/
def classOf (t : BitVec 32) : Fin 190 := ⟨(if t = 255#32 then 0 else t.toNat) % 190, Nat.mod_lt _ (by decide)⟩

theorem ne_bit (a b : BitVec 32) : IntOp.cmpi .ne a b = if a = b then 0#1 else 1#1 := by
  by_cases h : a = b
  · subst h; simp [IntOp.cmpi]
  · rw [if_neg h]; show BitVec.ofBool (a != b) = 1#1; rw [bne_iff_ne.mpr h]; rfl

/-- The bit of a label that is neither a class nor 255 is 0. -/
theorem labelled_of_bit (t : BitVec 32)
    (e : IntOp.ori (IntOp.andi (IntOp.cmpi .sge t 0#32) (IntOp.cmpi .slt t 190#32)) (IntOp.cmpi .eq t 255#32) = 1#1) : Labelled t := by
  have hand : ∀ p q : Bool, IntOp.andi (BitVec.ofBool p) (BitVec.ofBool q) = BitVec.ofBool (p && q) := by decide
  have hor : ∀ p q : Bool, IntOp.ori (BitVec.ofBool p) (BitVec.ofBool q) = BitVec.ofBool (p || q) := by decide
  have hone : ∀ p : Bool, (BitVec.ofBool p = 1#1) ↔ p = true := by decide
  simp only [IntOp.cmpi, hand, hor, hone, Bool.or_eq_true, Bool.and_eq_true, beq_iff_eq, BitVec.sle_eq_decide, BitVec.slt_eq_decide,
    decide_eq_true_eq, BitVec.toInt_eq_toNat_cond, BitVec.toNat_ofNat, Nat.reducePow, Nat.reduceMod] at e
  rcases e with e | e
  · left; omega
  · exact Or.inr e

section

variable (h : Scalars.BroadcastsInDim Positions ![])

/-- The labels with 255 read as 0, at a position. -/
theorem classes_at (t : IVec Positions 32) (i : Positions.Idx) (ht : Labelled (t i)) :
    select (cmpi .ne t (broadcastInDim Positions ![] h (constantI Scalars 32 255#32))) t (broadcastInDim Positions ![] h (constantI Scalars 32 0#32)) i
      = BitVec.ofNat 32 (classOf (t i)).val := by
  show Scalar.select (IntOp.cmpi .ne (t i) 255#32) (t i) 0#32 = _
  rw [ne_bit]
  by_cases e : t i = 255#32
  · rw [if_pos e, select_zero]; simp [classOf, e]
  · have h' : (t i).toNat < 190 := ht.resolve_right e
    rw [if_neg e, select_one]
    apply BitVec.eq_of_toNat_eq
    simp only [classOf, if_neg e, BitVec.toNat_ofNat]
    omega

/-- A position's number divided by sixteen, rounding down. -/
theorem sixteenths_at (i : Positions.Idx) :
    Routing.pyDiv h (iotaInDim Positions 32 0) (constantI Scalars 32 16#32) i = BitVec.ofNat 32 ((i 0).val / 16) :=
  Routing.pyDiv_ap h _ _ i (a := (i 0).val) (b := 16) rfl rfl (by have := (i 0).isLt; simp at this; omega) (by decide) (by decide)

/-- A position's row: 32768 rows to a class, sixteen positions to a row. -/
theorem row_at (t : IVec Positions 32) (i : Positions.Idx) (ht : Labelled (t i)) :
    (addi (muli (select (cmpi .ne t (broadcastInDim Positions ![] h (constantI Scalars 32 255#32))) t (broadcastInDim Positions ![] h (constantI Scalars 32 0#32)))
        (broadcastInDim Positions ![] h (constantI Scalars 32 32768#32)))
      (Routing.pyDiv h (iotaInDim Positions 32 0) (constantI Scalars 32 16#32)) i).toNat = (classOf (t i)).val * 32768 + (i 0).val / 16 := by
  show ((select _ t _ i) * 32768#32 + Routing.pyDiv h _ _ i).toNat = _
  rw [classes_at h t i ht, sixteenths_at]
  have h1 := (classOf (t i)).isLt
  have h2 : (i 0).val < 524288 := (i 0).isLt
  simp only [BitVec.toNat_add, BitVec.toNat_mul, BitVec.toNat_ofNat]
  omega

end

end Cert.Proof.Spec

end
-- ==== Proof.Range.lean ====
/-
  The precondition says of every label that it is a class or 255.
-/
module

public import proofs.«01_k».proof.Proof.Words
public import proofs.«01_k».proof.Proof.Gen.Pre_in_range
public import Idealize.ShloMosaic.Lib.ReduceAll

@[expose] public section

noncomputable section

namespace Cert.Proof.Spec

open Idealize.ShloMosaic Idealize.ShloMosaic.ValueIdx
open Cert.Pre_in_range Cert.Pre_in_range.Gen

theorem labelled_of_pre {F : FTy → Type} [FloatOps F] (x : (⟨2, ![524288, 190]⟩ : Shape).Idx → F .f32) (t : IVec Positions 32)
    (h : Cert.Pre_in_range.fn (F := F) x t = fun _ => 1#1) (i : Positions.Idx) : Labelled (t i) :=
  haveI : Subsingleton (S_ : Shape).Idx := ⟨fun _ _ => funext fun a => a.elim0⟩
  labelled_of_bit (t i) (Host.reduce_andi_all _ _ _ _ ix0 (congrFun h ix0) i)

end Cert.Proof.Spec

end
-- ==== Proof.PI.Slots.lean ====
/-
  The task's eight fetch slots. A slot is a row buffer with a semaphore of its own and its parts of the table and of the
  list of row numbers. It is either at rest, or filling with a block of rows named by 128 words of the list. The facts
  here are about one slot, whichever of the eight: starting a fetch, waiting for it, walking the fetched block, and
  starting the next fetch where there is one.
-/
module

public import proofs.«01_k».proof.Defs
public import proofs.«01_k».proof.Proof.Spec
public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.ShareLeaves
public import Idealize.ShloMosaic.Lib.Scf
public import Idealize.ShloMosaic.Lib.VecWindow
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.KernelIdeal

open Cert.KernelIdeal Cert.KernelIdeal.Gen
open Cert.Proof.Spec

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## One task's thread and memory -/

abbrev cV (L : grid0.Coords) : Fin τ.nSC := (L 0).castLE hcore0
abbrev jV (L : grid0.Coords) : Fin τ.nSub := (L 1).castLE hsub0
/-- The vector subcore the task runs on. -/
abbrev me (d : Dev nD) (L : grid0.Coords) : Thread nD τ := V d (cV L) (jV L)

/-- The table, the list of row numbers, the labels, the two outputs, all positions'; the task's strips of the list and
    of the labels. -/
abbrev tabM : Memref sig .scVector .hbm S6225920x16 .f32 := Memref.whole main_v4_scv
abbrev rowsM : Memref sig .scVector .hbm S524288 .i32 := Memref.whole main_v9_scv
abbrev labsM : Memref sig .scVector .hbm S524288 .i32 := Memref.whole main_arg1_scv
abbrev fiM : Memref sig .scVector .vmem S16384 .i32 := Memref.whole cc0_scratch0
abbrev ftM : Memref sig .scVector .vmem S16384 .i32 := Memref.whole cc0_scratch1

/-- All of the table, as a fetch names it; 128 words of the list from `off`. -/
abbrev tabAll : Memref sig .scVector .hbm S6225920x16 .f32 :=
  tabM.slice (Rect.unit (s := S6225920x16) ![0, 0] S6225920x16.size inb_S6225920x16_S6225920x16_0_0) (fun _ => rfl)
abbrev listAt (off : Fin 1 → ℕ) (h : ∀ a, off a + S128.size a ≤ S16384.size a) : Memref sig .scVector .vmem S128 .i32 :=
  fiM.slice (Rect.unit (s := S16384) off S128.size h) (fun _ => rfl)

variable [FloatOps F]

section Slot

variable (d : Dev nD) (L : grid0.Coords)
variable (tab : Table.Idx → F .f32) (fi ft : Strip.Idx → BitVec 32)

/-- The table at share `q`; the task's list at share `qo`; its labels. -/
abbrev tabPts (q : PosShare TreeShare) : sProp 𝕄 := tabAll.view.loc (me d L) ↦{q} tab
abbrev fiPts (q : PosShare TreeShare) : sProp 𝕄 := fiM.view.loc (me d L) ↦{q} fi
abbrev ftPts : sProp 𝕄 := ftM.view.loc (me d L) ↦{fullShare} ft

/-- A row buffer, full, at contents that read as block `b`. -/
def Holds (B : Memref sig .scVector .vmem S128x16 .f32) (b : ℕ) : sProp 𝕄 :=
  iprop(∃ f : Buf (Elt F) (B.view.loc (me d L)), ⌜B.view.read (Elt F) f = fetched tab fi b⌝ ∗ B.view.loc (me d L) ↦{fullShare} f)

/-- A slot's parts of the table and of the list, and its semaphore at zero. -/
abbrev Parts (sem : DmaSem sig) (q qo : PosShare TreeShare) : sProp 𝕄 :=
  iprop(tabPts d L tab q ∗ fiPts (F := F) d L fi qo ∗ semVal (me d L, SemLoc.dma sem) 0)

/-- A slot at rest: its buffer at some contents, and its parts. -/
def Ready (B : Memref sig .scVector .vmem S128x16 .f32) (sem : DmaSem sig) (q qo : PosShare TreeShare) : sProp 𝕄 :=
  iprop((∃ f : Buf (Elt F) (B.view.loc (me d L)), B.view.loc (me d L) ↦{fullShare} f) ∗ Parts d L tab fi sem q qo)

/-- A slot at rest, its buffer holding block `b`. -/
def Full (B : Memref sig .scVector .vmem S128x16 .f32) (sem : DmaSem sig) (q qo : PosShare TreeShare) (b : ℕ) : sProp 𝕄 :=
  iprop(Holds d L tab fi B b ∗ Parts d L tab fi sem q qo)

/-- A slot filling with block `b`: what its fetch will deliver. -/
def Filling (B : Memref sig .scVector .vmem S128x16 .f32) (sem : DmaSem sig) (q qo : PosShare TreeShare) (b : ℕ) : sProp 𝕄 :=
  Transfers.Flight countersEmb (me d L) (.dma sem) (default : HIx 1) B.view.dmaCredit
    iprop(Holds d L tab fi B b ∗ tabPts d L tab q ∗ fiPts (F := F) d L fi qo)

/-- A slot on its way to block `b`: filling with it, or at rest when there is no such block. -/
def Slot (B : Memref sig .scVector .vmem S128x16 .f32) (sem : DmaSem sig) (q qo : PosShare TreeShare) (b : ℕ) : sProp 𝕄 :=
  if b < 128 then Filling d L tab fi B sem q qo b else Ready d L tab fi B sem q qo

/-- What the task owes: `O`, its waits all of the kind that needs no promise, but for those it began with. -/
def Owed (O : CellTallies nD τ sig (HIx 1)) (W : Waits sig (HIx 1)) : sProp 𝕄 :=
  iprop(∃ W', ⌜∀ p ∈ W', p ∈ W ∨ p.2 = none⌝ ∗ owes (me d L) O W')

omit [FloatOps F] in
theorem Full_ready {B : Memref sig .scVector .vmem S128x16 .f32} {sem : DmaSem sig} {q qo : PosShare TreeShare} {b : ℕ} :
    Full d L tab fi B sem q qo b ⊢ Ready d L tab fi B sem q qo := by
  unfold Full Ready Holds
  iintro ⟨⟨%f, -, Hf⟩, Hp⟩
  iframe Hp
  iexists f; iexact Hf

/-- A rule for a program with a continuation, read as one for the program alone. -/
theorem bare {X Y : sProp 𝕄} {p : Prog (TpuEff nD τ sig (Elt F) Λ₀ (me d L).2) PUnit} {Q : PUnit → sProp 𝕄}
    (h : X ⊢ iprop((Y -∗ wp frame (wpE (defs₀ (F := F)) 𝒱₀ (me d L) none) Set.univ (pure ⟨⟩) Q)
      -∗ wp frame (wpE (defs₀ (F := F)) 𝒱₀ (me d L) none) Set.univ (p >>= pure) Q)) :
    X ⊢ iprop((Y -∗ Q ⟨⟩) -∗ wp frame (wpE (defs₀ (F := F)) 𝒱₀ (me d L) none) Set.univ p Q) := by
  rw [Prog.bind_pure] at h
  iintro HX HQ
  iapply h $$ HX
  iintro HY
  rw [wp_pure]; imodintro
  iapply HQ; iexact HY

/-! ## Starting a fetch -/

omit [FloatOps F] in
/-- The words a fetch names are words of the task's list. -/
theorem list_read {off : Fin 1 → ℕ} (h : ∀ a, off a + S128.size a ≤ S16384.size a) {b : ℕ} (hb : b < 128) (hoff : off = ![128 * b])
    (x : S128.Idx) : (listAt off h).view.read (Elt F) fi x = fi (ix1 (spot (128 * b + (x 0).val))) := by
  subst hoff
  refine (View.read_apply _ _).trans ((cast_eq _ _).trans (congrArg fi ?_))
  have hx : (x 0).val < 128 := (x 0).isLt
  refine (eq_ix1 _).trans (congrArg ix1 (Fin.ext ?_))
  rw [spot_val (by omega)]
  show 128 * b + 1 * (x 0).val = _
  omega

omit [FloatOps F] in
/-- What a fetch of the list's words from `128 b` writes is block `b`. -/
theorem payload_eq {off : Fin 1 → ℕ} (h : ∀ a, off a + S128.size a ≤ S16384.size a) {b : ℕ} (hb : b < 128) (hoff : off = ![128 * b])
    (hn : S128.numel = S128x16.size gathers_S6225920x16_S128x16.axis')
    (hin : ∀ x, ((listAt off h).view.read (Elt F) fi x).toNat < S6225920x16.size gathers_S6225920x16_S128x16.axis) :
    SparseCore.gatherPayload (F := F) (e := .f32) gathers_S6225920x16_S128x16 (tabAll.view.read (Elt F) tab) (SparseCore.rows ((listAt off h).view.read (Elt F) fi) hn hin)
      = fetched tab fi b := by
  funext y
  have htab : tabAll.view.read (Elt F) tab = tab := funext fun z => by
    refine (View.read_apply _ _).trans ((cast_eq _ _).trans (congrArg tab ?_))
    exact Rect.emb_unit_full _ _
  unfold SparseCore.gatherPayload
  rw [htab]
  refine congrArg tab ((eq_ix2 _).trans ?_)
  have h0 : Shape.Gathers.idx gathers_S6225920x16_S128x16 (SparseCore.rows ((listAt off h).view.read (Elt F) fi) hn hin) y 0
      = rowOf (fi (ix1 (spot (128 * b + (y 0).val)))) := by
    refine (Shape.Gathers.idx_axis gathers_S6225920x16_S128x16 _ y).trans (Fin.ext ?_)
    have hk : S128.rowMajor.symm ((y 0).cast hn.symm) = ix1 (y 0) := by
      exact (Equiv.symm_apply_eq _).mpr (Fin.ext (Shape.rowMajor_val_one (ix1 (y 0))).symm)
    have hw := list_read (F := F) fi h hb hoff (ix1 (y 0))
    have hlt := hin (ix1 (y 0))
    rw [hw] at hlt
    rw [rowOf_val hlt]
    show ((listAt off h).view.read (Elt F) fi (S128.rowMajor.symm ((y 0).cast hn.symm))).toNat = _
    rw [hk]
    exact congrArg BitVec.toNat hw
  have h1 : Shape.Gathers.idx gathers_S6225920x16_S128x16 (SparseCore.rows ((listAt off h).view.read (Elt F) fi) hn hin) y 1 = y 1 :=
    Fin.ext (Shape.Gathers.idx_of_ne gathers_S6225920x16_S128x16 _ y 1 (by decide))
  exact congr (congrArg ix2 h0) h1

/-- A buffer's rows' credits are the buffer's. -/
def RowCredits (B : Memref sig .scVector .vmem S128x16 .f32) : Prop :=
  ∑ j, (B.slice (S128x16.rowRect (gathers_S6225920x16_S128x16).axis' j) (S128x16.stride_rowRect (gathers_S6225920x16_S128x16).axis' j)).view.dmaCredit
    = B.view.dmaCredit

/-- STARTING A FETCH: a slot at rest, the words from `128 b` named, fills with block `b`. -/
theorem wp_fetch {B : Memref sig .scVector .vmem S128x16 .f32} {sem : DmaSem sig} {q qo : PosShare TreeShare}
    (hn : S128.numel = S128x16.size gathers_S6225920x16_S128x16.axis') (hN : RowCredits B) (hfi : ∀ x, (fi x).toNat < 6225920)
    {off : Fin 1 → ℕ} (h : ∀ a, off a + S128.size a ≤ S16384.size a) {b : ℕ} (hb : b < 128) (hoff : off = ![128 * b]) {Q : PUnit → sProp 𝕄} :
    Ready d L tab fi B sem q qo
      ⊢ iprop((Slot d L tab fi B sem q qo b -∗ Q ⟨⟩)
          -∗ wp frame (wpE (defs₀ (F := F)) 𝒱₀ (me d L) none) Set.univ
            (SparseCore.enqueueIndirectGather rfl tabAll B gathers_S6225920x16_S128x16 (listAt off h) hn sem (View.wordExact_bits rfl) rfl (Or.inl rfl)) Q) := by
  have hin : ∀ x, ((listAt off h).view.read (Elt F) fi x).toNat < S6225920x16.size gathers_S6225920x16_S128x16.axis := fun x => by
    rw [list_read (F := F) fi h hb hoff]; exact hfi _
  unfold Ready Slot Filling
  rw [if_pos hb]
  iintro ⟨⟨%f, Hf⟩, Ht, Hl, Hs⟩ HQ
  iapply (bare d L (SparseCore.wp_gatherFromWhole countersEmb 𝒱₀ (me d L) none (default : HIx 1) B.view.dmaCredit hN (by decide) hin)) $$ [Ht Hf Hl Hs]
  · iframe Ht Hf Hl Hs
  iintro Hfl
  iapply HQ
  iapply (Transfers.Flight_mono countersEmb (me d L) ?_) $$ Hfl
  iintro ⟨Hf, Ht, Hl⟩
  iframe Ht Hl
  unfold Holds
  iexists _
  isplitr
  swap; · iexact Hf
  ipureintro
  rw [View.read_write_univ]
  exact payload_eq tab fi h hb hoff _ hin

/-- Starting the next fetch, where there is a next block; the program goes on with `p` either way. -/
theorem wp_next {B : Memref sig .scVector .vmem S128x16 .f32} {sem : DmaSem sig} {q qo : PosShare TreeShare}
    (hn : S128.numel = S128x16.size gathers_S6225920x16_S128x16.axis') (hN : RowCredits B) (hfi : ∀ x, (fi x).toNat < 6225920)
    {C : BitVec 1} {off : Fin 1 → ℕ} (h : C = 1#1 → ∀ a, off a + S128.size a ≤ S16384.size a) {b b' : ℕ} (hoff : off = ![128 * b])
    (hC : C = 1#1 ↔ b < 128) {A : Type}
    {p : Prog (TpuEff nD τ sig (Elt F) Λ₀ (.scVector (cV L) (jV L))) A} {Q : A → sProp 𝕄} :
    Full d L tab fi B sem q qo b'
      ⊢ iprop((Slot d L tab fi B sem q qo b -∗ wp frame (wpE (defs₀ (F := F)) 𝒱₀ (me d L) none) Set.univ p Q)
          -∗ wp frame (wpE (defs₀ (F := F)) 𝒱₀ (me d L) none) Set.univ
            (if hc : C = 1#1 then
              SparseCore.enqueueIndirectGather rfl tabAll B gathers_S6225920x16_S128x16 (listAt off (h hc)) hn sem (View.wordExact_bits rfl) rfl (Or.inl rfl)
                >>= fun _ => p
            else p) Q) := by
  iintro Hs HQ
  ihave Hs := (Full_ready d L tab fi) $$ Hs
  by_cases hc : C = 1#1
  · rw [dif_pos hc, wp_bind]
    iapply (wp_fetch d L tab fi hn hN hfi (h hc) (hC.mp hc) hoff) $$ Hs
    iexact HQ
  · rw [dif_neg hc]
    iapply HQ
    unfold Slot
    rw [if_neg (mt hC.mpr hc)]
    iexact Hs

/-! ## Waiting for a fetch -/

/-- WAITING for block `b`: the slot comes to rest with its buffer holding it. -/
theorem wp_arrive {B : Memref sig .scVector .vmem S128x16 .f32} (hB : B.IsWhole) {sem : DmaSem sig} {q qo : PosShare TreeShare} {b : ℕ} (hb : b < 128)
    {O : CellTallies nD τ sig (HIx 1)} {W : Waits sig (HIx 1)} {Q : PUnit → sProp 𝕄} :
    iprop(Transfers.MayWaits (me d L) (default : HIx 1) O ∗ Slot d L tab fi B sem q qo b ∗ Owed d L O W)
      ⊢ iprop((iprop(Full d L tab fi B sem q qo b ∗ Owed d L O W) -∗ Q ⟨⟩)
          -∗ wp frame (wpE (defs₀ (F := F)) 𝒱₀ (me d L) none) Set.univ
            (SparseCore.waitIndirectGather sem tabAll B (View.wordExact_bits rfl) hB.wordExact) Q) := by
  unfold Slot Filling Full Owed
  rw [if_pos hb]
  iintro ⟨Hmw, Hf, ⟨%W', %hW, HO⟩⟩ HQ
  unfold SparseCore.waitIndirectGather
  iapply (Transfers.wp_waitLocalO countersEmb 𝒱₀ (me d L) none (default : HIx 1) (rfl : B.view.dmaCredit = _)) $$ [Hf HO Hmw]
  · iframe Hf HO
    iapply (Transfers.MayWaits.elim (SemLoc.dma sem)) $$ Hmw
  iintro ⟨⟨Hf, Ht, Hl⟩, Hs, HO⟩
  rw [wp_ret]; imodintro
  iapply HQ
  iframe Hf Ht Hl Hs
  iexists _
  isplitr
  swap; · iexact HO
  ipureintro
  intro p hp
  rcases Finset.mem_insert.mp hp with hp | hp
  · exact .inr (hp ▸ rfl)
  · exact hW p hp

/-! ## Walking a block -/

/-- The running sums and counts. -/
abbrev Acc : Type := FVec F S16 .f32 × FVec F S16 .f32

/-- One trip of the walk over a block: the labels loaded from `off`, the lanes' values from the buffer at rows `row`,
    each lane its own column `col`. -/
def walkStep (B : Memref sig .scVector .vmem S128x16 .f32) (off : Fin 1 → ℕ) (h : ∀ a, off a + S16.size a ≤ S16384.size a) (row col : IVec S16 32)
    (a : Acc (F := F)) : Prog (TpuEff nD τ sig (Elt F) Λ₀ (.scVector (cV L) (jV L))) (Acc (F := F)) :=
  .op (.load ftM (Rect.unit (s := S16384) off S16.size h).toLoadRect (View.loadsAt_vmem h_S16)) fun (t : Vec F S16 .i32) =>
    .op (.assume (k0_chk1 col row) (k0_chk1.dec col row)) fun hw =>
      SparseCore.vectorLoadIdx B ![row, col] (k0_idx1_inb col row hw.down) (View.loads_vmem h_S128x16) >>= fun v =>
        pure (addSquare a.1 t v, addOne a.2 t)

/-- ONE TRIP of the walk over block `b`: the sums and counts move on by one. -/
theorem wp_walkStep {B : Memref sig .scVector .vmem S128x16 .f32} {b k : ℕ} (hb : b < 128) (hk : k < 8)
    {off : Fin 1 → ℕ} (h : ∀ a, off a + S16.size a ≤ S16384.size a) (hoff : off = ![128 * b + 16 * k])
    {row col : IVec S16 32} (hrow : ∀ x, (row x).toNat = 16 * k + (x 0).val) (hcol : ∀ x, (col x).toNat = (x 0).val) {Q : Acc (F := F) → sProp 𝕄} :
    iprop(Holds d L tab fi B b ∗ ftPts (F := F) d L ft)
      ⊢ iprop((iprop(Holds d L tab fi B b ∗ ftPts (F := F) d L ft) -∗ Q (sums tab fi ft (8 * b + k + 1), counts ft (8 * b + k + 1)))
          -∗ wp frame (wpE (defs₀ (F := F)) 𝒱₀ (me d L) none) Set.univ
            (walkStep L B off h row col (sums tab fi ft (8 * b + k), counts ft (8 * b + k))) Q) := by
  have hchk : k0_chk1 col row := by
    intro a x
    have hx : (x 0).val < 16 := (x 0).isLt
    match a with
    | 0 => show (row x).toNat < 128; rw [hrow]; omega
    | 1 => show (col x).toNat < 16; rw [hcol]; omega
  unfold walkStep Holds
  iintro ⟨⟨%f, %hf, Hf⟩, Ht⟩ HQ
  iapply (wp_load_rect 𝒱₀ (me d L) none Set.univ (m := ftM) (r := Rect.unit (s := S16384) off S16.size h) (f := ft) (Finset.subset_univ _)) $$ Ht
  iintro Ht
  iapply (wp_assume 𝒱₀ (me d L) none Set.univ hchk)
  iapply (SparseCore.wp_vectorLoadIdx 𝒱₀ (me d L) none Set.univ (base := B) (f := f) (Finset.subset_univ _)) $$ Hf
  iintro Hf
  rw [wp_pure]; imodintro
  have et : (ftM.access (Rect.unit (s := S16384) off S16.size h)).read (Elt F) ft = labels ft (8 * b + k) := by
    subst hoff
    funext x
    have hx : (x 0).val < 16 := (x 0).isLt
    refine (View.read_apply _ _).trans ((cast_eq _ _).trans (congrArg ft ((eq_ix1 _).trans (congrArg ix1 (Fin.ext ?_)))))
    rw [spot_val (by omega)]
    show 128 * b + 16 * k + 1 * (x 0).val = _
    omega
  have ev : loadIdx ((B.access (.whole S128x16)).read (Elt F) f) ![row, col] (k0_idx1_inb col row hchk) = values tab fi (8 * b + k) := by
    funext x
    have hx : (x 0).val < 16 := (x 0).isLt
    show B.view.read (Elt F) f ((Rect.whole S128x16).emb (idxAt ![row, col] (k0_idx1_inb col row hchk) x)) = _
    rw [hf]
    have h0 : ((Rect.whole S128x16).emb (idxAt ![row, col] (k0_idx1_inb col row hchk) x) 0).val = 16 * k + (x 0).val := by
      show 0 + 1 * (row x).toNat = _
      rw [hrow]; omega
    have h1 : (Rect.whole S128x16).emb (idxAt ![row, col] (k0_idx1_inb col row hchk) x) 1 = x 0 := Fin.ext (by
      show 0 + 1 * (col x).toNat = _
      rw [hcol]; omega)
    unfold fetched values
    rw [h0, h1, show 128 * b + (16 * k + (x 0).val) = 16 * (8 * b + k) + (x 0).val by omega]
  rw [et, ev, show (addSquare (sums tab fi ft (8 * b + k), (counts ft (8 * b + k) : FVec F Lanes .f32)).1 (labels ft (8 * b + k)) (values tab fi (8 * b + k)),
    addOne (sums tab fi ft (8 * b + k), (counts ft (8 * b + k) : FVec F Lanes .f32)).2 (labels ft (8 * b + k)))
      = (sums tab fi ft (8 * b + k + 1), counts ft (8 * b + k + 1)) from rfl]
  iapply HQ
  iframe Ht
  iexists f
  iframe Hf
  ipureintro; exact hf

/-- WALKING a block: eight trips, over its 128 positions. -/
theorem wp_walk {B : Memref sig .scVector .vmem S128x16 .f32} {sem : DmaSem sig} {q qo : PosShare TreeShare} {b : ℕ} (hb : b < 128)
    {off : Fin k0_t2_loop.trips → Fin 1 → ℕ} (h : ∀ k a, off k a + S16.size a ≤ S16384.size a) (hoff : ∀ k, off k = ![128 * b + 16 * k.val])
    {row : Fin k0_t2_loop.trips → IVec S16 32} {col : IVec S16 32} (hrow : ∀ k x, (row k x).toNat = 16 * k.val + (x 0).val)
    (hcol : ∀ x, (col x).toNat = (x 0).val)
    {body : Fin k0_t2_loop.trips → Acc (F := F) → Prog (TpuEff nD τ sig (Elt F) Λ₀ (.scVector (cV L) (jV L))) (Acc (F := F))}
    (hbody : ∀ k a, body k a = walkStep L B (off k) (h k) (row k) col a) {Q : Acc (F := F) → sProp 𝕄} :
    iprop(Full d L tab fi B sem q qo b ∗ ftPts (F := F) d L ft)
      ⊢ iprop((iprop(Full d L tab fi B sem q qo b ∗ ftPts (F := F) d L ft) -∗ Q (sums tab fi ft (8 * (b + 1)), counts ft (8 * (b + 1))))
          -∗ wp frame (wpE (defs₀ (F := F)) 𝒱₀ (me d L) none) Set.univ
            (Scf.Loop.for k0_t2_loop k0_t2_ok (sums tab fi ft (8 * b), counts ft (8 * b)) body) Q) := by
  have ht : k0_t2_loop.trips = 8 := by decide
  iintro ⟨Hs, Ht⟩ HQ
  iapply (Scf.wp_for frame (wpE (defs₀ (F := F)) 𝒱₀ (me d L) none) Set.univ _ _ _ k0_t2_ok (sums tab fi ft (8 * b), counts ft (8 * b)) body
    (fun k a => iprop(⌜a = (sums tab fi ft (8 * b + k), counts ft (8 * b + k))⌝ ∗ Full d L tab fi B sem q qo b ∗ ftPts (F := F) d L ft)) ?_)
  · intro k a
    iintro ⟨%ha, Hs, Ht⟩
    subst ha
    rw [hbody]
    unfold Full
    icases Hs with ⟨Hf, Hp⟩
    iapply (wp_walkStep d L tab fi ft hb (ht ▸ k.isLt) (h k) (hoff k) (hrow k) hcol) $$ [Hf Ht]
    · iframe Hf Ht
    iintro ⟨Hf, Ht⟩
    iframe Hf Hp Ht
    ipureintro; rfl
  · isplitl [Hs Ht]
    · iframe Hs Ht
      ipureintro; rfl
    · iintro %a ⟨%ha, Hs, Ht⟩
      subst ha
      rw [show Scf.trips _ _ _ = 8 from ht, show 8 * b + 8 = 8 * (b + 1) by omega]
      iapply HQ
      iframe Hs Ht

end Slot

end Cert.Proof.KernelIdeal

end
-- ==== Proof.PI.Trip.lean ====
/-
  One trip of the task's outer loop: for each of its eight slots in turn, the wait for its block, the walk over it, and
  the start of the block eight further on, where there is one.
-/
module

public import proofs.«01_k».proof.Proof.PI.Slots

@[expose] public section

noncomputable section

namespace Cert.Proof.KernelIdeal

open Cert.KernelIdeal Cert.KernelIdeal.Gen
open Cert.Proof.Spec

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The slots' buffers and the outputs -/

abbrev buf0 : Memref sig .scVector .vmem S128x16 .f32 := Memref.whole cc0_scratch2
abbrev buf1 : Memref sig .scVector .vmem S128x16 .f32 := Memref.whole cc0_scratch3
abbrev buf2 : Memref sig .scVector .vmem S128x16 .f32 := Memref.whole cc0_scratch4
abbrev buf3 : Memref sig .scVector .vmem S128x16 .f32 := Memref.whole cc0_scratch5
abbrev buf4 : Memref sig .scVector .vmem S128x16 .f32 := Memref.whole cc0_scratch6
abbrev buf5 : Memref sig .scVector .vmem S128x16 .f32 := Memref.whole cc0_scratch7
abbrev buf6 : Memref sig .scVector .vmem S128x16 .f32 := Memref.whole cc0_scratch8
abbrev buf7 : Memref sig .scVector .vmem S128x16 .f32 := Memref.whole cc0_scratch9
abbrev sqM : Memref sig .scVector .vmem S16 .f32 := Memref.whole cc0_scratch10
abbrev ctM : Memref sig .scVector .vmem S16 .f32 := Memref.whole cc0_scratch11
abbrev outSqM : Memref sig .scVector .hbm S32x16 .f32 := Memref.whole main_v10_0_scv
abbrev outCtM : Memref sig .scVector .hbm S32x16 .f32 := Memref.whole main_v10_1_scv

/-! ## The credits of each buffer's rows, and the conditions of the eight starts -/

theorem credits0 : RowCredits buf0 := SparseCore.sum_rowCredit_eq_dmaCredit buf0 _ fun _ => rfl
theorem credits1 : RowCredits buf1 := SparseCore.sum_rowCredit_eq_dmaCredit buf1 _ fun _ => rfl
theorem credits2 : RowCredits buf2 := SparseCore.sum_rowCredit_eq_dmaCredit buf2 _ fun _ => rfl
theorem credits3 : RowCredits buf3 := SparseCore.sum_rowCredit_eq_dmaCredit buf3 _ fun _ => rfl
theorem credits4 : RowCredits buf4 := SparseCore.sum_rowCredit_eq_dmaCredit buf4 _ fun _ => rfl
theorem credits5 : RowCredits buf5 := SparseCore.sum_rowCredit_eq_dmaCredit buf5 _ fun _ => rfl
theorem credits6 : RowCredits buf6 := SparseCore.sum_rowCredit_eq_dmaCredit buf6 _ fun _ => rfl
theorem credits7 : RowCredits buf7 := SparseCore.sum_rowCredit_eq_dmaCredit buf7 _ fun _ => rfl

theorem cond0 : ∀ t : Fin k0_t1_loop.trips, k0_cond1 t = 1#1 ↔ 8 * (t.val + 1) < 128 := by decide +kernel
theorem cond1 : ∀ t : Fin k0_t1_loop.trips, k0_cond2 t = 1#1 ↔ 8 * (t.val + 1) + 1 < 128 := by decide +kernel
theorem cond2 : ∀ t : Fin k0_t1_loop.trips, k0_cond3 t = 1#1 ↔ 8 * (t.val + 1) + 2 < 128 := by decide +kernel
theorem cond3 : ∀ t : Fin k0_t1_loop.trips, k0_cond4 t = 1#1 ↔ 8 * (t.val + 1) + 3 < 128 := by decide +kernel
theorem cond4 : ∀ t : Fin k0_t1_loop.trips, k0_cond5 t = 1#1 ↔ 8 * (t.val + 1) + 4 < 128 := by decide +kernel
theorem cond5 : ∀ t : Fin k0_t1_loop.trips, k0_cond6 t = 1#1 ↔ 8 * (t.val + 1) + 5 < 128 := by decide +kernel
theorem cond6 : ∀ t : Fin k0_t1_loop.trips, k0_cond7 t = 1#1 ↔ 8 * (t.val + 1) + 6 < 128 := by decide +kernel
theorem cond7 : ∀ t : Fin k0_t1_loop.trips, k0_cond8 t = 1#1 ↔ 8 * (t.val + 1) + 7 < 128 := by decide +kernel

/-- The lanes' column numbers. -/
abbrev col : IVec S16 32 := iota .scVector S16 32 [0] iota_S16_d0_w32_scVector

theorem col_toNat (x : S16.Idx) : (col x).toNat = (x 0).val := by
  have hx : (x 0).val < 16 := (x 0).isLt
  show (BitVec.ofNat 32 (0 * S16.size 0 + (x 0).val)).toNat = _
  rw [BitVec.toNat_ofNat, Nat.mod_eq_of_lt (by omega)]; omega

/-- The lanes' row numbers at trip `k` of a walk. -/
theorem row_toNat (k : Fin k0_t2_loop.trips) (x : S16.Idx) : (k0_pay9 col k x).toNat = 16 * k.val + (x 0).val := by
  have hk : k.val < 8 := k.isLt
  have hx : (x 0).val < 16 := (x 0).isLt
  have hc := col_toNat x
  show (((0#32 + BitVec.ofNat 32 k.val * 1#32) * 16#32) + col x).toNat = _
  rw [BitVec.toNat_add, hc]
  simp only [BitVec.toNat_mul, BitVec.toNat_add, BitVec.toNat_ofNat]
  omega

variable [FloatOps F]

section Trip

variable (d : Dev nD) (L : grid0.Coords)
variable (tab : Table.Idx → F .f32) (fi ft : Strip.Idx → BitVec 32) (q qo : Fin 8 → PosShare TreeShare)

/-- The eight slots before trip `p`: slot `s` on its way to block `8 p + s`. -/
abbrev Slots (p : ℕ) : sProp 𝕄 :=
  iprop(Slot d L tab fi buf0 cc0_scratch12.sem (q 0) (qo 0) (8 * p) ∗ Slot d L tab fi buf1 cc0_scratch13.sem (q 1) (qo 1) (8 * p + 1)
    ∗ Slot d L tab fi buf2 cc0_scratch14.sem (q 2) (qo 2) (8 * p + 2) ∗ Slot d L tab fi buf3 cc0_scratch15.sem (q 3) (qo 3) (8 * p + 3)
    ∗ Slot d L tab fi buf4 cc0_scratch16.sem (q 4) (qo 4) (8 * p + 4) ∗ Slot d L tab fi buf5 cc0_scratch17.sem (q 5) (qo 5) (8 * p + 5)
    ∗ Slot d L tab fi buf6 cc0_scratch18.sem (q 6) (qo 6) (8 * p + 6) ∗ Slot d L tab fi buf7 cc0_scratch19.sem (q 7) (qo 7) (8 * p + 7))

/-- The trip's program. -/
abbrev trip : Fin k0_t1_loop.trips → Acc (F := F) → Prog (TpuEff nD τ sig (Elt F) Λ₀ (.scVector (cV L) (jV L))) (Acc (F := F)) :=
  k0_t1_body (F := F) L tabM (Memref.isWhole_whole _) rowsM (Memref.isWhole_whole _) labsM (Memref.isWhole_whole _)
    outSqM (Memref.isWhole_whole _) outCtM (Memref.isWhole_whole _) fiM (Memref.isWhole_whole _) ftM (Memref.isWhole_whole _)
    buf0 (Memref.isWhole_whole _) buf1 (Memref.isWhole_whole _) buf2 (Memref.isWhole_whole _) buf3 (Memref.isWhole_whole _)
    buf4 (Memref.isWhole_whole _) buf5 (Memref.isWhole_whole _) buf6 (Memref.isWhole_whole _) buf7 (Memref.isWhole_whole _)
    sqM (Memref.isWhole_whole _) ctM (Memref.isWhole_whole _)
    cc0_scratch12 cc0_scratch13 cc0_scratch14 cc0_scratch15 cc0_scratch16 cc0_scratch17 cc0_scratch18 cc0_scratch19
    cc0_scoped0 cc0_scoped1 cc0_scoped2 cc0_scoped3 col

set_option maxHeartbeats 4000000 in
theorem wp_trip (hfi : ∀ x, (fi x).toNat < 6225920) (t : Fin k0_t1_loop.trips)
    {O : CellTallies nD τ sig (HIx 1)} {W : Waits sig (HIx 1)} {Q : Acc (F := F) → sProp 𝕄} :
    iprop(Transfers.MayWaits (me d L) (default : HIx 1) O ∗ Slots d L tab fi q qo t.val ∗ ftPts (F := F) d L ft ∗ Owed d L O W)
      ⊢ iprop((iprop(Slots d L tab fi q qo (t.val + 1) ∗ ftPts (F := F) d L ft ∗ Owed d L O W)
            -∗ Q (sums tab fi ft (8 * (8 * (t.val + 1))), counts ft (8 * (8 * (t.val + 1)))))
          -∗ wp frame (wpE (defs₀ (F := F)) 𝒱₀ (me d L) none) Set.univ
            (trip L t (sums tab fi ft (8 * (8 * t.val)), counts ft (8 * (8 * t.val)))) Q) := by
  have ht : t.val < 16 := t.isLt
  have hn : S128.numel = S128x16.size gathers_S6225920x16_S128x16.axis' := rfl
  iintro ⟨#Hmw, ⟨H0, H1, H2, H3, H4, H5, H6, H7⟩, Ht, HO⟩ HQ
  unfold trip k0_t1_body
  simp only [k0_part1_eq_skeleton, k0_part2_eq_skeleton, k0_part3_eq_skeleton]
  unfold k0_part1_skel
  simp only [wp_bind]
  iapply (wp_arrive d L tab fi (Memref.isWhole_whole _) (b := 8 * t.val) (by omega) (O := O) (W := W)) $$ [H0 HO]
  · iframe Hmw H0 HO
  iintro ⟨H0, HO⟩
  iapply (wp_walk d L tab fi ft (B := buf0) (b := 8 * t.val) (by omega) (fun k => k0_off3_inb t k) (fun k => by rw [k0_off3_eq]; congr 1; omega)
    row_toNat col_toNat (fun _ _ => rfl)) $$ [H0 Ht]
  · iframe H0 Ht
  iintro ⟨H0, Ht⟩
  iapply (wp_next d L tab fi hn credits0 hfi (b := 8 * (t.val + 1)) (b' := 8 * t.val) (fun h => k0_off4_inb t h) (by rw [k0_off4_eq]; congr 1; omega)
    (cond0 t)) $$ H0
  iintro H0
  simp only [wp_bind]
  iapply (wp_arrive d L tab fi (Memref.isWhole_whole _) (b := 8 * t.val + 1) (by omega) (O := O) (W := W)) $$ [H1 HO]
  · iframe Hmw H1 HO
  iintro ⟨H1, HO⟩
  iapply (wp_walk d L tab fi ft (B := buf1) (b := 8 * t.val + 1) (by omega) (fun k => k0_off6_inb t k) (fun k => by rw [k0_off6_eq]; congr 1; omega)
    row_toNat col_toNat (fun _ _ => rfl)) $$ [H1 Ht]
  · iframe H1 Ht
  iintro ⟨H1, Ht⟩
  iapply (wp_next d L tab fi hn credits1 hfi (b := 8 * (t.val + 1) + 1) (b' := 8 * t.val + 1) (fun h => k0_off7_inb t h) (by rw [k0_off7_eq]; congr 1; omega)
    (cond1 t)) $$ H1
  iintro H1
  rw [wp_pure]; imodintro
  unfold k0_part2_skel
  simp only [wp_bind]
  iapply (wp_arrive d L tab fi (Memref.isWhole_whole _) (b := 8 * t.val + 2) (by omega) (O := O) (W := W)) $$ [H2 HO]
  · iframe Hmw H2 HO
  iintro ⟨H2, HO⟩
  iapply (wp_walk d L tab fi ft (B := buf2) (b := 8 * t.val + 2) (by omega) (fun k => k0_off8_inb t k) (fun k => by rw [k0_off8_eq]; congr 1; omega)
    row_toNat col_toNat (fun _ _ => rfl)) $$ [H2 Ht]
  · iframe H2 Ht
  iintro ⟨H2, Ht⟩
  iapply (wp_next d L tab fi hn credits2 hfi (b := 8 * (t.val + 1) + 2) (b' := 8 * t.val + 2) (fun h => k0_off9_inb t h) (by rw [k0_off9_eq]; congr 1; omega)
    (cond2 t)) $$ H2
  iintro H2
  simp only [wp_bind]
  iapply (wp_arrive d L tab fi (Memref.isWhole_whole _) (b := 8 * t.val + 3) (by omega) (O := O) (W := W)) $$ [H3 HO]
  · iframe Hmw H3 HO
  iintro ⟨H3, HO⟩
  iapply (wp_walk d L tab fi ft (B := buf3) (b := 8 * t.val + 3) (by omega) (fun k => k0_off10_inb t k) (fun k => by rw [k0_off10_eq]; congr 1; omega)
    row_toNat col_toNat (fun _ _ => rfl)) $$ [H3 Ht]
  · iframe H3 Ht
  iintro ⟨H3, Ht⟩
  iapply (wp_next d L tab fi hn credits3 hfi (b := 8 * (t.val + 1) + 3) (b' := 8 * t.val + 3) (fun h => k0_off11_inb t h) (by rw [k0_off11_eq]; congr 1; omega)
    (cond3 t)) $$ H3
  iintro H3
  simp only [wp_bind]
  iapply (wp_arrive d L tab fi (Memref.isWhole_whole _) (b := 8 * t.val + 4) (by omega) (O := O) (W := W)) $$ [H4 HO]
  · iframe Hmw H4 HO
  iintro ⟨H4, HO⟩
  rw [wp_pure]; imodintro
  unfold k0_part3_skel
  simp only [wp_bind]
  iapply (wp_walk d L tab fi ft (B := buf4) (b := 8 * t.val + 4) (by omega) (fun k => k0_off12_inb t k) (fun k => by rw [k0_off12_eq]; congr 1; omega)
    row_toNat col_toNat (fun _ _ => rfl)) $$ [H4 Ht]
  · iframe H4 Ht
  iintro ⟨H4, Ht⟩
  iapply (wp_next d L tab fi hn credits4 hfi (b := 8 * (t.val + 1) + 4) (b' := 8 * t.val + 4) (fun h => k0_off13_inb t h) (by rw [k0_off13_eq]; congr 1; omega)
    (cond4 t)) $$ H4
  iintro H4
  simp only [wp_bind]
  iapply (wp_arrive d L tab fi (Memref.isWhole_whole _) (b := 8 * t.val + 5) (by omega) (O := O) (W := W)) $$ [H5 HO]
  · iframe Hmw H5 HO
  iintro ⟨H5, HO⟩
  iapply (wp_walk d L tab fi ft (B := buf5) (b := 8 * t.val + 5) (by omega) (fun k => k0_off14_inb t k) (fun k => by rw [k0_off14_eq]; congr 1; omega)
    row_toNat col_toNat (fun _ _ => rfl)) $$ [H5 Ht]
  · iframe H5 Ht
  iintro ⟨H5, Ht⟩
  iapply (wp_next d L tab fi hn credits5 hfi (b := 8 * (t.val + 1) + 5) (b' := 8 * t.val + 5) (fun h => k0_off15_inb t h) (by rw [k0_off15_eq]; congr 1; omega)
    (cond5 t)) $$ H5
  iintro H5
  simp only [wp_bind]
  iapply (wp_arrive d L tab fi (Memref.isWhole_whole _) (b := 8 * t.val + 6) (by omega) (O := O) (W := W)) $$ [H6 HO]
  · iframe Hmw H6 HO
  iintro ⟨H6, HO⟩
  rw [wp_pure]; imodintro
  iapply (wp_walk d L tab fi ft (B := buf6) (b := 8 * t.val + 6) (by omega) (fun k => k0_off16_inb t k) (fun k => by rw [k0_off16_eq]; congr 1; omega)
    row_toNat col_toNat (fun _ _ => rfl)) $$ [H6 Ht]
  · iframe H6 Ht
  iintro ⟨H6, Ht⟩
  iapply (wp_next d L tab fi hn credits6 hfi (b := 8 * (t.val + 1) + 6) (b' := 8 * t.val + 6) (fun h => k0_off17_inb t h) (by rw [k0_off17_eq]; congr 1; omega)
    (cond6 t)) $$ H6
  iintro H6
  simp only [wp_bind]
  iapply (wp_arrive d L tab fi (Memref.isWhole_whole _) (b := 8 * t.val + 7) (by omega) (O := O) (W := W)) $$ [H7 HO]
  · iframe Hmw H7 HO
  iintro ⟨H7, HO⟩
  iapply (wp_walk d L tab fi ft (B := buf7) (b := 8 * t.val + 7) (by omega) (fun k => k0_off18_inb t k) (fun k => by rw [k0_off18_eq]; congr 1; omega)
    row_toNat col_toNat (fun _ _ => rfl)) $$ [H7 Ht]
  · iframe H7 Ht
  iintro ⟨H7, Ht⟩
  iapply (wp_next d L tab fi hn credits7 hfi (b := 8 * (t.val + 1) + 7) (b' := 8 * t.val + 7) (fun h => k0_off19_inb t h) (by rw [k0_off19_eq]; congr 1; omega)
    (cond7 t)) $$ H7
  iintro H7
  rw [wp_pure]; imodintro
  iapply HQ
  iframe H0 H1 H2 H3 H4 H5 H6 H7 Ht HO

end Trip

end Cert.Proof.KernelIdeal

end
-- ==== Proof.PI.Own.lean ====
/-
  What a vector subcore holds of its own, split into the twelve buffers and twelve semaphores a task uses and the rest.
-/
module

public import proofs.«01_k».proof.Proof.PI.Slots

@[expose] public section

noncomputable section

namespace Cert.Proof.KernelIdeal

open Cert.KernelIdeal Cert.KernelIdeal.Gen
open Cert.Proof.Spec

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## A subcore's own buffers and semaphores -/

/-- Its twelve scratch buffers, and its twelve semaphores. -/
abbrev scratch (i : Fin 12) : Ref sig .scVector := ⟨.vmem, i, rfl⟩
abbrev cell (i : Fin 12) : DmaSem sig := i

theorem scratch_inj {i j : Fin 12} (h : scratch i = scratch j) : i = j :=
  Fin.ext (by have := congrArg (fun r : Ref sig .scVector => r.idx.val) h; exact this)

variable (d : Dev nD) (L : grid0.Coords)

/-- The buffers, at any contents; the semaphores, at zero. -/
abbrev Bufs : sProp 𝕄 := bigSep Finset.univ fun i : Fin 12 => iprop(∃ f : Buf (Elt F) ((me d L).loc (scratch i)), (me d L).loc (scratch i) ↦{fullShare} f)
abbrev Sems : sProp 𝕄 := bigSep Finset.univ fun i : Fin 12 => semVal (me d L, SemLoc.dma (cell i)) 0

/-- What a subcore holds of its own: the twelve buffers, and the rest. -/
theorem ownBufs_split : ∃ R : sProp 𝕄, (ownBufs (me d L) : sProp 𝕄) = iprop(Bufs (F := F) d L ∗ R) := by
  have hsub : (Finset.univ.image fun i : Fin 12 => (me d L).2.devRef (scratch i)) ⊆ ownRefs (me d L).2 := by
    intro b hb
    obtain ⟨i, -, rfl⟩ := Finset.mem_image.mp hb
    exact SparseCore.Cfg.mem_ownRefs_of_owner rfl
  unfold SparseCore.Cfg.ownBufs
  rw [SparseCore.bigSep_sdiff_split' hsub,
    SparseCore.bigSep_image_of_injOn (f := fun i : Fin 12 => (me d L).2.devRef (scratch i)) fun i _ j _ h => scratch_inj (Proc.devRef_injective _ h)]
  exact ⟨_, rfl⟩

theorem ownSems_split : ∃ R : sProp 𝕄, (ownSems0 (me d L) : sProp 𝕄) = iprop(Sems (F := F) d L ∗ R) := by
  have hsub : (Finset.univ.image fun i : Fin 12 => ((me d L, SemLoc.dma (cell i)) : GSem nD τ sig)) ⊆ ownCells (me d L) := by
    intro g hg
    obtain ⟨i, -, rfl⟩ := Finset.mem_image.mp hg
    refine mem_ownCells.mpr ⟨rfl, ?_⟩
    show (SemLoc.dma (cell i) : SemLoc sig).isScoped .scVector = true
    clear hg; revert i; decide
  unfold SparseCore.Cfg.ownSems0
  rw [SparseCore.bigSep_sdiff_split' hsub,
    SparseCore.bigSep_image_of_injOn (f := fun i : Fin 12 => ((me d L, SemLoc.dma (cell i)) : GSem nD τ sig)) fun i _ j _ h => by
      injection (Prod.mk.inj h).2]
  exact ⟨_, rfl⟩

end Cert.Proof.KernelIdeal

end
-- ==== Proof.PI.Task.lean ====
/-
  One task: its strips copied in, the eight slots started, the sixteen trips, the accumulators stored and copied out.
-/
module

public import proofs.«01_k».proof.Proof.PI.Trip
public import proofs.«01_k».proof.Proof.PI.Own

@[expose] public section

noncomputable section

namespace Cert.Proof.KernelIdeal

open Cert.KernelIdeal Cert.KernelIdeal.Gen
open Cert.Proof.Spec

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid0.Coords)

variable [FloatOps F]

/-! ## A copy and its wait -/

/-- A COPY AND ITS WAIT, one after the other: the destination written with the source. -/
theorem wp_copy {sp sp' : Space} {s : Shape} {e : EltTy} {src : Memref sig .scVector sp s e} {dst : Memref sig .scVector sp' s e} {sem : DmaSem sig}
    {hsrc : src.view.WordExact} {hdst : dst.view.WordExact} {hsem : DmaTarget.Typed (nD := nD) (p := (me d L).2) sp (SemLoc.dma sem) (.here dst)}
    {hsrc' : src.view.WordExact} {hdst' : dst.view.WordExact}
    (hN0 : 0 < dst.view.dmaCredit)
    {q : PosShare TreeShare} {fs : Buf (Elt F) (src.view.loc (me d L))} {Sd : Finset (Idx (dst.view.loc (me d L)))} {fd : Buf (Elt F) (dst.view.loc (me d L))}
    (hSd : dst.view.set ⊆ Sd) {O : CellTallies nD τ sig (HIx 1)} {W : Waits sig (HIx 1)} {Q : PUnit → sProp 𝕄} :
    iprop(Transfers.MayWaits (me d L) (default : HIx 1) O ∗ (src.view.loc (me d L) ↦{q} fs) ∗ (dst.view.loc (me d L) ↦[Sd]{fullShare} fd)
        ∗ semVal (me d L, SemLoc.dma sem) 0 ∗ Owed d L O W)
      ⊢ iprop((iprop((src.view.loc (me d L) ↦{q} fs)
            ∗ (dst.view.loc (me d L) ↦[Sd]{fullShare} dst.view.write (Elt F) fd (src.view.read (Elt F) fs) Finset.univ)
            ∗ semVal (me d L, SemLoc.dma sem) 0 ∗ Owed d L O W) -∗ Q ⟨⟩)
          -∗ wp frame (wpE (defs₀ (F := F)) 𝒱₀ (me d L) none) Set.univ
            (Prog.lift (.enqueueDma src (.here dst) (.dma sem) hsrc hdst hsem)) fun _ =>
              wp frame (wpE (defs₀ (F := F)) 𝒱₀ (me d L) none) Set.univ (Prog.lift (.waitDma2 sem src dst hsrc' hdst')) Q) := by
  unfold Owed
  iintro ⟨Hmw, Hs, Hd, Hsem, ⟨%W', %hW, HO⟩⟩ HQ
  iapply (Transfers.wp_dmaFromWhole countersEmb 𝒱₀ (me d L) none (default : HIx 1) (dst.view.amount (.dma sem)) rfl hN0 hSd) $$ [Hs Hd Hsem]
  · iframe Hs Hd Hsem
  iintro Hfl
  rw [wp_ret]; imodintro
  iapply (Transfers.wp_waitLocalO countersEmb 𝒱₀ (me d L) none (default : HIx 1) (rfl : dst.view.dmaCredit = _)) $$ [Hfl HO Hmw]
  · isplitl [Hfl]; · iexact Hfl
    isplitl [HO]; · iexact HO
    iapply (Transfers.MayWaits.elim (SemLoc.dma sem)) $$ Hmw
  iintro ⟨⟨Hd, Hs⟩, Hsem, HO⟩
  rw [wp_ret]; imodintro
  iapply HQ
  iframe Hs Hd Hsem
  iexists _
  isplitr
  swap; · iexact HO
  ipureintro; intro p hp
  rcases Finset.mem_insert.mp hp with hp | hp
  · exact .inr (hp ▸ rfl)
  · exact hW p hp

/-- An accumulator's buffer read, then written whole. -/
theorem wp_put {B : Memref sig .scVector .vmem S16 .f32} (hB : B.IsWhole) {f : Buf (Elt F) (B.view.loc (me d L))} {v : FVec F S16 .f32} {Q : PUnit → sProp 𝕄} :
    (B.view.loc (me d L) ↦{fullShare} f : sProp 𝕄)
      ⊢ iprop((iprop(∃ g : Buf (Elt F) (B.view.loc (me d L)), ⌜B.view.read (Elt F) g = v⌝ ∗ B.view.loc (me d L) ↦{fullShare} g) -∗ Q ⟨⟩)
          -∗ wp frame (wpE (defs₀ (F := F)) 𝒱₀ (me d L) none) Set.univ
            (Prog.lift (.load B (Rect.unit (s := S16) ![0] S16.size inb_S16_S16_0).toLoadRect (View.loadsAt_vmem h_S16))) fun _ =>
              wp frame (wpE (defs₀ (F := F)) 𝒱₀ (me d L) none) Set.univ
                (Prog.lift (.store B (Rect.unit (s := S16) ![0] S16.size inb_S16_S16_0) v Finset.univ (View.stores_vmem_bits_univ h_S16 rfl) (.inl rfl))) Q) := by
  iintro Hf HQ
  iapply (wp_load_rect 𝒱₀ (me d L) none Set.univ (m := B) (r := Rect.unit (s := S16) ![0] S16.size inb_S16_S16_0) (f := f) (Finset.subset_univ _)) $$ Hf
  iintro Hf
  rw [wp_ret]; imodintro
  iapply (wp_store 𝒱₀ (me d L) none Set.univ (Finset.subset_univ _)) $$ Hf
  iintro Hf
  rw [wp_ret]; imodintro
  iapply HQ
  iexists _
  isplitr
  swap; · iexact Hf
  ipureintro
  funext x
  have h := congrFun (View.read_write_univ (v := (B.access (Rect.unit (s := S16) ![0] S16.size inb_S16_S16_0))) (Val := Elt F) f v) x
  refine Eq.trans ?_ h
  have e : (Rect.unit (s := S16) ![0] S16.size inb_S16_S16_0).emb x = x :=
    Rect.emb_unit_full (s := S16) (off := ![0]) inb_S16_S16_0 x
  conv_lhs => rw [← e]
  rfl

/-! ## The task's strips, and its rows of the outputs -/

/-- The task's number. -/
def wid : Fin 32 := ⟨2 * (L 1).val + (L 0).val, by
  have h0 : (L 0).val < 2 := (L 0).isLt
  have h1 : (L 1).val < 16 := (L 1).isLt
  omega⟩

/-- A strip of the list of rows; one of the labels; the task's row of either output. -/
abbrev rowsStrip : Memref sig .scVector .hbm S16384 .i32 := rowsM.slice (Rect.unit (s := S524288) (k0_off1 L) S16384.size (k0_off1_inb L)) (fun _ => rfl)
abbrev labsStrip : Memref sig .scVector .hbm S16384 .i32 := labsM.slice (Rect.unit (s := S524288) (k0_off1 L) S16384.size (k0_off1_inb L)) (fun _ => rfl)
abbrev rowRect : Rect S32x16 := Rect.unit (s := S32x16) (k0_off20 L) S1x16.size (k0_off20_inb L)
abbrev outSqRow : Memref sig .scVector .hbm S16 .f32 := (outSqM.slice (rowRect L) (fun _ => rfl)).squeeze S16 squeezes_S1x16_S16
abbrev outCtRow : Memref sig .scVector .hbm S16 .f32 := (outCtM.slice (rowRect L) (fun _ => rfl)).squeeze S16 squeezes_S1x16_S16

theorem strip_emb (x : S16384.Idx) : (Rect.unit (s := S524288) (k0_off1 L) S16384.size (k0_off1_inb L)).emb x
    = ix1 ⟨16384 * (wid L).val + (x 0).val, by have := (wid L).isLt; have h : (x 0).val < 16384 := (x 0).isLt; omega⟩ := by
  refine (eq_ix1 _).trans (congrArg ix1 (Fin.ext ?_))
  show k0_off1 L 0 + 1 * (x 0).val = 16384 * (2 * (L 1).val + (L 0).val) + (x 0).val
  rw [k0_off1_eq]
  show 32768 * (L 1).val + 16384 * (L 0).val + 1 * (x 0).val = _
  omega

omit [FloatOps F] in
theorem rows_read (rows : Positions.Idx → BitVec 32) : (rowsStrip L).view.read (Elt F) rows = strip rows (wid L) :=
  funext fun x => (View.read_apply _ _).trans ((cast_eq _ _).trans (congrArg rows (strip_emb L x)))
omit [FloatOps F] in
theorem labs_read (labs : Positions.Idx → BitVec 32) : (labsStrip L).view.read (Elt F) labs = strip labs (wid L) :=
  funext fun x => (View.read_apply _ _).trans ((cast_eq _ _).trans (congrArg labs (strip_emb L x)))

theorem row_emb (x : S16.Idx) :
    (rowRect L).emb (S1x16.rowMajor.symm ((S16.rowMajor x).cast squeezes_S1x16_S16.numel_eq)) = ix2 (wid L) (x 0) := by
  have hx : (x 0).val < 16 := (x 0).isLt
  have hz : S1x16.rowMajor.symm ((S16.rowMajor x).cast squeezes_S1x16_S16.numel_eq) = ix2 (n0 := 1) (n1 := 16) 0 (x 0) := by
    refine (Equiv.symm_apply_eq _).mpr (Fin.ext ?_)
    show (S16.rowMajor x).val = _
    rw [Shape.rowMajor_val_two, Shape.rowMajor_val_one]
    show _ = 0 * 16 + (x 0).val
    omega
  rw [hz]
  refine (eq_ix2 _).trans (congr (congrArg ix2 (Fin.ext ?_)) (Fin.ext ?_))
  · show k0_off20 L 0 + 1 * 0 = 2 * (L 1).val + (L 0).val
    rw [k0_off20_eq]
    show 2 * (L 1).val + (L 0).val + 1 * 0 = _
    omega
  · show k0_off20 L 1 + 1 * (x 0).val = (x 0).val
    rw [k0_off20_eq]
    show 0 + 1 * (x 0).val = _
    omega

omit [FloatOps F] in
/-- A row of an output written with `v` is that row of `G`, where the two agree. -/
theorem outSq_row {fd : Buf (Elt F) ((outSqRow L).view.loc (me d L))} {v : S16.Idx → F .f32} {G : Outs.Idx → F .f32}
    (h : ∀ x, v x = G (ix2 (wid L) (x 0))) :
    ((outSqRow L).view.loc (me d L) ↦[(outSqRow L).view.set]{fullShare} (outSqRow L).view.write (Elt F) fd v Finset.univ : sProp 𝕄)
      = ((outSqRow L).view.loc (me d L) ↦[(outSqRow L).view.set]{fullShare} G) := by
  refine pointsTo_congr fun i hi => ?_
  obtain ⟨x, -, rfl⟩ := Finset.mem_map.mp hi
  refine (View.write_emb_of_mem _ _ (Finset.mem_univ x)).trans ((cast_eq _ _).trans ((h x).trans (congrArg G (row_emb L x).symm)))
omit [FloatOps F] in
theorem outCt_row {fd : Buf (Elt F) ((outCtRow L).view.loc (me d L))} {v : S16.Idx → F .f32} {G : Outs.Idx → F .f32}
    (h : ∀ x, v x = G (ix2 (wid L) (x 0))) :
    ((outCtRow L).view.loc (me d L) ↦[(outCtRow L).view.set]{fullShare} (outCtRow L).view.write (Elt F) fd v Finset.univ : sProp 𝕄)
      = ((outCtRow L).view.loc (me d L) ↦[(outCtRow L).view.set]{fullShare} G) := by
  refine pointsTo_congr fun i hi => ?_
  obtain ⟨x, -, rfl⟩ := Finset.mem_map.mp hi
  refine (View.write_emb_of_mem _ _ (Finset.mem_univ x)).trans ((cast_eq _ _).trans ((h x).trans (congrArg G (row_emb L x).symm)))

/-! ## Eight and twelve parts -/

omit [FloatOps F] in
theorem bigSep_eight (Φ : Fin 8 → sProp 𝕄) :
    bigSep Finset.univ Φ = iprop(Φ 0 ∗ Φ 1 ∗ Φ 2 ∗ Φ 3 ∗ Φ 4 ∗ Φ 5 ∗ Φ 6 ∗ Φ 7) := by
  simp only [bigSep_univ_succ (m := 7), bigSep_univ_succ (m := 6), bigSep_univ_succ (m := 5),
    bigSep_univ_succ (m := 4), bigSep_univ_succ (m := 3), bigSep_univ_succ (m := 2),
    bigSep_univ_succ (m := 1), BI.bigSep_univ_of_subsingleton (0 : Fin 1)]
  rfl
omit [FloatOps F] in
theorem bigSep_twelve (Φ : Fin 12 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11) := by
  rw [bigSep_univ_succ, bigSep_univ_succ, bigSep_univ_succ, bigSep_univ_succ, bigSep_eight]
  rfl

/-- A slot past the last block is at rest. -/
theorem Slot_done {tab : Table.Idx → F .f32} {fi : Strip.Idx → BitVec 32} {B : Memref sig .scVector .vmem S128x16 .f32} {sem : DmaSem sig}
    {q qo : PosShare TreeShare} {b : ℕ} (hb : ¬b < 128) : Slot d L tab fi B sem q qo b ⊢ Ready d L tab fi B sem q qo := by
  unfold Slot; rw [if_neg hb]

/-! ## The outer loop -/

theorem wp_trips {tab : Table.Idx → F .f32} {fi ft : Strip.Idx → BitVec 32} {q qo : Fin 8 → PosShare TreeShare}
    (hfi : ∀ x, (fi x).toNat < 6225920) {O : CellTallies nD τ sig (HIx 1)} {W : Waits sig (HIx 1)} {Q : Acc (F := F) → sProp 𝕄} :
    iprop(Transfers.MayWaits (me d L) (default : HIx 1) O ∗ Slots d L tab fi q qo 0 ∗ ftPts (F := F) d L ft ∗ Owed d L O W)
      ⊢ iprop((iprop(Slots d L tab fi q qo 16 ∗ ftPts (F := F) d L ft ∗ Owed d L O W) -∗ Q (sums tab fi ft 1024, counts ft 1024))
          -∗ wp frame (wpE (defs₀ (F := F)) 𝒱₀ (me d L) none) Set.univ
            (Scf.Loop.for k0_t1_loop k0_t1_ok (sums tab fi ft 0, counts ft 0) (trip L)) Q) := by
  have ht : k0_t1_loop.trips = 16 := by decide
  iintro ⟨#Hmw, Hs, Ht, HO⟩ HQ
  iapply (Scf.wp_for frame (wpE (defs₀ (F := F)) 𝒱₀ (me d L) none) Set.univ _ _ _ k0_t1_ok (sums tab fi ft 0, counts ft 0) (trip L)
    (fun t a => iprop(⌜a = (sums tab fi ft (8 * (8 * t)), counts ft (8 * (8 * t)))⌝ ∗ Transfers.MayWaits (me d L) (default : HIx 1) O
      ∗ Slots d L tab fi q qo t ∗ ftPts (F := F) d L ft ∗ Owed d L O W)) ?_)
  · intro t a
    iintro ⟨%ha, #Hmw, Hs, Ht, HO⟩
    subst ha
    iapply (wp_trip d L tab fi ft q qo hfi t (O := O) (W := W)) $$ [Hs Ht HO]
    · iframe Hmw Hs Ht HO
    iintro ⟨Hs, Ht, HO⟩
    iframe Hmw Hs Ht HO
    ipureintro; rfl
  · isplitl [Hs Ht HO]
    · iframe Hmw Hs Ht HO
      ipureintro; rfl
    · iintro %a ⟨%ha, -, Hs, Ht, HO⟩
      subst ha
      rw [show Scf.trips _ _ _ = 16 from ht, show 8 * (8 * 16) = 1024 from rfl]
      iapply HQ
      iframe Hs Ht HO

/-! ## The task -/

/-- The task's program. -/
abbrev task : Prog (TpuEff nD τ sig (Elt F) Λ₀ (.scVector (cV L) (jV L))) PUnit :=
  cc0__ppd_body (F := F) L tabM (Memref.isWhole_whole _) rowsM (Memref.isWhole_whole _) labsM (Memref.isWhole_whole _)
    outSqM (Memref.isWhole_whole _) outCtM (Memref.isWhole_whole _) fiM (Memref.isWhole_whole _) ftM (Memref.isWhole_whole _)
    buf0 (Memref.isWhole_whole _) buf1 (Memref.isWhole_whole _) buf2 (Memref.isWhole_whole _) buf3 (Memref.isWhole_whole _)
    buf4 (Memref.isWhole_whole _) buf5 (Memref.isWhole_whole _) buf6 (Memref.isWhole_whole _) buf7 (Memref.isWhole_whole _)
    sqM (Memref.isWhole_whole _) ctM (Memref.isWhole_whole _)
    cc0_scratch12 cc0_scratch13 cc0_scratch14 cc0_scratch15 cc0_scratch16 cc0_scratch17 cc0_scratch18 cc0_scratch19
    cc0_scoped0 cc0_scoped1 cc0_scoped2 cc0_scoped3

/-- The arrays a task reads, at share `q`. -/
abbrev Reads (q : PosShare TreeShare) (tab : Table.Idx → F .f32) (rows labs : Positions.Idx → BitVec 32) : sProp 𝕄 :=
  iprop((tabM.view.loc (me d L) ↦{q} tab) ∗ (rowsM.view.loc (me d L) ↦{q} rows) ∗ (labsM.view.loc (me d L) ↦{q} labs))

/-- Its rows of the two outputs. -/
abbrev RowsOut (f g : Outs.Idx → F .f32) : sProp 𝕄 :=
  iprop(((outSqRow L).view.loc (me d L) ↦[(outSqRow L).view.set]{fullShare} f) ∗ ((outCtRow L).view.loc (me d L) ↦[(outCtRow L).view.set]{fullShare} g))

set_option maxHeartbeats 4000000 in
/-- THE TASK: with every row number in the table, its rows of the outputs end at its sums and counts. -/
theorem wp_task {q : PosShare TreeShare} {tab : Table.Idx → F .f32} {rows labs : Positions.Idx → BitVec 32} {f g : Outs.Idx → F .f32}
    (hrows : ∀ x, (rows x).toNat < 6225920) {O : CellTallies nD τ sig (HIx 1)} {W : Waits sig (HIx 1)} :
    iprop(Transfers.MayWaits (me d L) (default : HIx 1) O ∗ Reads d L q tab rows labs ∗ RowsOut d L f g ∗ Bufs (F := F) d L ∗ Sems (F := F) d L ∗ Owed d L O W)
      ⊢ wp frame (wpE (defs₀ (F := F)) 𝒱₀ (me d L) none) Set.univ (task L)
          fun _ => iprop(Reads d L q tab rows labs ∗ RowsOut d L (outSums tab rows labs) (outCounts labs) ∗ Bufs (F := F) d L ∗ Sems (F := F) d L ∗ Owed d L O W) := by
  have hn : S128.numel = S128x16.size gathers_S6225920x16_S128x16.axis' := rfl
  have hfi : ∀ x, (strip rows (wid L) x).toNat < 6225920 := fun x => hrows _
  have hB : (Bufs (F := F) d L : sProp 𝕄) = iprop((∃ f, fiM.view.loc (me d L) ↦{fullShare} f) ∗ (∃ f, ftM.view.loc (me d L) ↦{fullShare} f)
      ∗ (∃ f, buf0.view.loc (me d L) ↦{fullShare} f)
      ∗ (∃ f, buf1.view.loc (me d L) ↦{fullShare} f)
      ∗ (∃ f, buf2.view.loc (me d L) ↦{fullShare} f)
      ∗ (∃ f, buf3.view.loc (me d L) ↦{fullShare} f)
      ∗ (∃ f, buf4.view.loc (me d L) ↦{fullShare} f)
      ∗ (∃ f, buf5.view.loc (me d L) ↦{fullShare} f)
      ∗ (∃ f, buf6.view.loc (me d L) ↦{fullShare} f)
      ∗ (∃ f, buf7.view.loc (me d L) ↦{fullShare} f)
      ∗ (∃ f, sqM.view.loc (me d L) ↦{fullShare} f) ∗ (∃ f, ctM.view.loc (me d L) ↦{fullShare} f)) := bigSep_twelve _
  have hS : (Sems (F := F) d L : sProp 𝕄) = iprop(semVal (me d L, SemLoc.dma cc0_scratch12.sem) 0
      ∗ semVal (me d L, SemLoc.dma cc0_scratch13.sem) 0
      ∗ semVal (me d L, SemLoc.dma cc0_scratch14.sem) 0
      ∗ semVal (me d L, SemLoc.dma cc0_scratch15.sem) 0
      ∗ semVal (me d L, SemLoc.dma cc0_scratch16.sem) 0
      ∗ semVal (me d L, SemLoc.dma cc0_scratch17.sem) 0
      ∗ semVal (me d L, SemLoc.dma cc0_scratch18.sem) 0
      ∗ semVal (me d L, SemLoc.dma cc0_scratch19.sem) 0
      ∗ semVal (me d L, SemLoc.dma cc0_scoped0.sem) 0
      ∗ semVal (me d L, SemLoc.dma cc0_scoped1.sem) 0
      ∗ semVal (me d L, SemLoc.dma cc0_scoped2.sem) 0
      ∗ semVal (me d L, SemLoc.dma cc0_scoped3.sem) 0) := bigSep_twelve _
  rw [hB, hS]
  unfold task
  simp only [cc0__ppd_body_eq_skeleton]
  unfold cc0__ppd_body_skel
  simp only [k0_part4_eq_skeleton]
  unfold k0_part4_skel
  simp only [wp_bind]
  iintro ⟨#Hmw, ⟨Htab, Hrows, Hlabs⟩, ⟨Hoq, Hoc⟩, ⟨⟨%ffi, Hfi⟩, ⟨%fft, Hft⟩, H0, H1, H2, H3, H4, H5, H6, H7, Hsq, Hct⟩,
    ⟨S0, S1, S2, S3, S4, S5, S6, S7, S8, S9, S10, S11⟩, HO⟩
  iapply (wp_copy d L (dst := fiM) (sem := cc0_scoped0.sem) (by decide) (Finset.subset_univ _) (O := O) (W := W)) $$ [Hrows Hfi S8 HO]
  · iframe Hmw Hrows Hfi S8 HO
  iintro ⟨Hrows, Hfi, S8, HO⟩
  iapply (wp_copy d L (dst := ftM) (sem := cc0_scoped1.sem) (by decide) (Finset.subset_univ _) (O := O) (W := W)) $$ [Hlabs Hft S9 HO]
  · iframe Hmw Hlabs Hft S9 HO
  iintro ⟨Hlabs, Hft, S9, HO⟩
  ihave Hfi := (Entails.of_eq (show (fiM.view.loc (me d L) ↦{fullShare} fiM.view.write (Elt F) ffi ((rowsStrip L).view.read (Elt F) rows) Finset.univ : sProp 𝕄)
    = (fiM.view.loc (me d L) ↦{fullShare} strip rows (wid L)) by rw [rows_read]; exact congrArg _ (View.write_whole_univ _ _ _))) $$ Hfi
  ihave Hft := (Entails.of_eq (show (ftM.view.loc (me d L) ↦{fullShare} ftM.view.write (Elt F) fft ((labsStrip L).view.read (Elt F) labs) Finset.univ : sProp 𝕄)
    = (ftM.view.loc (me d L) ↦{fullShare} strip labs (wid L)) by rw [labs_read]; exact congrArg _ (View.write_whole_univ _ _ _))) $$ Hft
  ihave ⟨Htabd, Htab⟩ := (Transfers.pointsTo_toks_split q 8) $$ Htab
  ihave ⟨Hfid, Hfi⟩ := (Transfers.pointsTo_toks_split fullShare 8) $$ Hfi
  ihave Htab := (Entails.of_eq (bigSep_eight _)) $$ Htab
  ihave Hfi := (Entails.of_eq (bigSep_eight _)) $$ Hfi
  icases Htab with ⟨T0, T1, T2, T3, T4, T5, T6, T7⟩
  icases Hfi with ⟨F0, F1, F2, F3, F4, F5, F6, F7⟩
  iapply (wp_fetch d L tab (strip rows (wid L)) (B := buf0) (q := Transfers.shareTok q 8 0) (qo := Transfers.shareTok fullShare 8 0) hn credits0 hfi
    inb_S16384_S128_0 (b := 8 * 0) (by omega) rfl) $$ [H0 T0 F0 S0]
  · unfold Ready
    iframe H0 T0 F0 S0
  iintro H0
  iapply (wp_fetch d L tab (strip rows (wid L)) (B := buf1) (q := Transfers.shareTok q 8 1) (qo := Transfers.shareTok fullShare 8 1) hn credits1 hfi
    inb_S16384_S128_128 (b := 8 * 0 + 1) (by omega) rfl) $$ [H1 T1 F1 S1]
  · unfold Ready
    iframe H1 T1 F1 S1
  iintro H1
  iapply (wp_fetch d L tab (strip rows (wid L)) (B := buf2) (q := Transfers.shareTok q 8 2) (qo := Transfers.shareTok fullShare 8 2) hn credits2 hfi
    inb_S16384_S128_256 (b := 8 * 0 + 2) (by omega) rfl) $$ [H2 T2 F2 S2]
  · unfold Ready
    iframe H2 T2 F2 S2
  iintro H2
  iapply (wp_fetch d L tab (strip rows (wid L)) (B := buf3) (q := Transfers.shareTok q 8 3) (qo := Transfers.shareTok fullShare 8 3) hn credits3 hfi
    inb_S16384_S128_384 (b := 8 * 0 + 3) (by omega) rfl) $$ [H3 T3 F3 S3]
  · unfold Ready
    iframe H3 T3 F3 S3
  iintro H3
  iapply (wp_fetch d L tab (strip rows (wid L)) (B := buf4) (q := Transfers.shareTok q 8 4) (qo := Transfers.shareTok fullShare 8 4) hn credits4 hfi
    inb_S16384_S128_512 (b := 8 * 0 + 4) (by omega) rfl) $$ [H4 T4 F4 S4]
  · unfold Ready
    iframe H4 T4 F4 S4
  iintro H4
  iapply (wp_fetch d L tab (strip rows (wid L)) (B := buf5) (q := Transfers.shareTok q 8 5) (qo := Transfers.shareTok fullShare 8 5) hn credits5 hfi
    inb_S16384_S128_640 (b := 8 * 0 + 5) (by omega) rfl) $$ [H5 T5 F5 S5]
  · unfold Ready
    iframe H5 T5 F5 S5
  iintro H5
  rw [wp_pure]; imodintro
  iapply (wp_fetch d L tab (strip rows (wid L)) (B := buf6) (q := Transfers.shareTok q 8 6) (qo := Transfers.shareTok fullShare 8 6) hn credits6 hfi
    inb_S16384_S128_768 (b := 8 * 0 + 6) (by omega) rfl) $$ [H6 T6 F6 S6]
  · unfold Ready
    iframe H6 T6 F6 S6
  iintro H6
  iapply (wp_fetch d L tab (strip rows (wid L)) (B := buf7) (q := Transfers.shareTok q 8 7) (qo := Transfers.shareTok fullShare 8 7) hn credits7 hfi
    inb_S16384_S128_896 (b := 8 * 0 + 7) (by omega) rfl) $$ [H7 T7 F7 S7]
  · unfold Ready
    iframe H7 T7 F7 S7
  iintro H7
  iapply (wp_trips d L (tab := tab) (fi := strip rows (wid L)) (ft := strip labs (wid L)) (q := fun j => Transfers.shareTok q 8 j)
    (qo := fun j => Transfers.shareTok fullShare 8 j) hfi (O := O) (W := W)) $$ [H0 H1 H2 H3 H4 H5 H6 H7 Hft HO]
  · iframe Hmw H0 H1 H2 H3 H4 H5 H6 H7 Hft HO
  iintro ⟨⟨H0, H1, H2, H3, H4, H5, H6, H7⟩, Hft, HO⟩
  icases Hsq with ⟨%fsq, Hsq⟩
  iapply (wp_put d L (B := sqM) (Memref.isWhole_whole _)) $$ Hsq
  iintro ⟨%gsq, %hsq, Hsq⟩
  icases Hct with ⟨%fct, Hct⟩
  iapply (wp_put d L (B := ctM) (Memref.isWhole_whole _)) $$ Hct
  iintro ⟨%gct, %hct, Hct⟩
  iapply (wp_copy d L (src := sqM) (dst := outSqRow L) (sem := cc0_scoped2.sem)
    (show 0 < sig.dmaCredit .scVector _ outSqM.view.buf S16 .f32 by decide) (Finset.Subset.refl _) (O := O) (W := W)) $$ [Hsq Hoq S10 HO]
  · iframe Hmw Hsq Hoq S10 HO
  iintro ⟨Hsq, Hoq, S10, HO⟩
  iapply (wp_copy d L (src := ctM) (dst := outCtRow L) (sem := cc0_scoped3.sem)
    (show 0 < sig.dmaCredit .scVector _ outCtM.view.buf S16 .f32 by decide) (Finset.Subset.refl _) (O := O) (W := W)) $$ [Hct Hoc S11 HO]
  · iframe Hmw Hct Hoc S11 HO
  iintro ⟨Hct, Hoc, S11, HO⟩
  rw [wp_pure]; imodintro
  ihave Hoq := (Entails.of_eq (outSq_row d L (G := outSums tab rows labs) (fun x => by rw [hsq]; exact congrArg _ (eq_ix1 x)))) $$ Hoq
  ihave Hoc := (Entails.of_eq (outCt_row d L (G := outCounts labs) (fun x => by rw [hct]; exact congrArg _ (eq_ix1 x)))) $$ Hoc
  ihave H0 := (Slot_done d L (by omega)) $$ H0
  ihave H1 := (Slot_done d L (by omega)) $$ H1
  ihave H2 := (Slot_done d L (by omega)) $$ H2
  ihave H3 := (Slot_done d L (by omega)) $$ H3
  ihave H4 := (Slot_done d L (by omega)) $$ H4
  ihave H5 := (Slot_done d L (by omega)) $$ H5
  ihave H6 := (Slot_done d L (by omega)) $$ H6
  ihave H7 := (Slot_done d L (by omega)) $$ H7
  unfold Ready
  icases H0 with ⟨H0, T0, F0, S0⟩
  icases H1 with ⟨H1, T1, F1, S1⟩
  icases H2 with ⟨H2, T2, F2, S2⟩
  icases H3 with ⟨H3, T3, F3, S3⟩
  icases H4 with ⟨H4, T4, F4, S4⟩
  icases H5 with ⟨H5, T5, F5, S5⟩
  icases H6 with ⟨H6, T6, F6, S6⟩
  icases H7 with ⟨H7, T7, F7, S7⟩
  ihave Htab := (Transfers.pointsTo_toks_join (ℓ := tabM.view.loc (me d L)) (f := tab) q 8) $$ [Htabd T0 T1 T2 T3 T4 T5 T6 T7]
  · rw [bigSep_eight]; iframe Htabd T0 T1 T2 T3 T4 T5 T6 T7
  ihave Hfi := (Transfers.pointsTo_toks_join (ℓ := fiM.view.loc (me d L)) (f := strip rows (wid L)) fullShare 8) $$ [Hfid F0 F1 F2 F3 F4 F5 F6 F7]
  · rw [bigSep_eight]; iframe Hfid F0 F1 F2 F3 F4 F5 F6 F7
  iframe Htab Hrows Hlabs Hoq Hoc H0 H1 H2 H3 H4 H5 H6 H7 S0 S1 S2 S3 S4 S5 S6 S7 S8 S9 S10 S11 HO
  isplitl [Hfi]; · iexists _; iexact Hfi
  isplitl [Hft]; · iexists _; iexact Hft
  isplitl [Hsq]; · iexists _; iexact Hsq
  iexists _; iexact Hct

end Cert.Proof.KernelIdeal

end
-- ==== Proof.PI.Launch.lean ====
/-
  The one launch of the tasks: what each of the two cores and each of their sixteen subcores is handed and brings back.
  The table, the row numbers and the labels are read by all, so each task holds a share of them; a task alone holds its
  row of the two outputs.
-/
module

public import proofs.«01_k».proof.Proof.PI.Task

@[expose] public section

noncomputable section

namespace Cert.Proof.KernelIdeal

open Cert.KernelIdeal Cert.KernelIdeal.Gen
open Cert.Proof.Spec

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves (leaf pointsTo_leaves)

variable {F : FTy → Type}

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

theorem nCore_zero : (K (F := F)).nCore 0 = 2 := rfl
theorem nSub_zero : (K (F := F)).nSub 0 = 16 := rfl

/-! ## The arrays a launch finds, and the rows of the outputs -/

/-- What a launch finds: the table, the row numbers, the labels, and whatever the two outputs hold. -/
structure Found (F : FTy → Type) where
  tab : Table.Idx → F .f32
  rows : Positions.Idx → BitVec 32
  labs : Positions.Idx → BitVec 32
  sq : Outs.Idx → F .f32
  ct : Outs.Idx → F .f32

variable (d : Dev nD)

abbrev tabLoc : Loc nD τ sig := (d.tc : Thread nD τ).loc main_v4
abbrev rowsLoc : Loc nD τ sig := (d.tc : Thread nD τ).loc main_v9
abbrev labsLoc : Loc nD τ sig := (d.tc : Thread nD τ).loc main_arg1
abbrev sqLoc : Loc nD τ sig := (d.tc : Thread nD τ).loc main_v10_0
abbrev ctLoc : Loc nD τ sig := (d.tc : Thread nD τ).loc main_v10_1

/-- Row `w` of an output. -/
def rowSet (w : Fin 32) : Finset Outs.Idx := Finset.univ.filter fun y => (y 0).val = w.val

theorem mem_rowSet {w : Fin 32} {y : Outs.Idx} : y ∈ rowSet w ↔ (y 0).val = w.val := by simp [rowSet]

/-- The row of subcore `p.2` of core `p.1`. -/
def rowAt (p : Fin 2 × Fin 16) : Fin 32 := ⟨2 * p.2.val + p.1.val, by omega⟩

theorem rowAt_injective {p p' : Fin 2 × Fin 16} (h : (rowAt p).val = (rowAt p').val) : p = p' := by
  simp only [rowAt] at h
  exact Prod.ext (Fin.ext (by omega)) (Fin.ext (by omega))

theorem rows_disjoint : ∀ p ∈ (Finset.univ : Finset (Fin 2 × Fin 16)), ∀ p' ∈ (Finset.univ : Finset (Fin 2 × Fin 16)), p ≠ p' →
    Disjoint (rowSet (rowAt p)) (rowSet (rowAt p')) := fun _ _ _ _ h =>
  Finset.disjoint_left.mpr fun _ hy hy' => h (rowAt_injective ((mem_rowSet.mp hy).symm.trans (mem_rowSet.mp hy')))

theorem rows_cover : (Finset.univ : Finset (Fin 2 × Fin 16)).biUnion (fun p => rowSet (rowAt p)) = Finset.univ := by
  refine Finset.eq_univ_of_forall fun y => ?_
  have hy : (y 0).val < 32 := (y 0).isLt
  refine Finset.mem_biUnion.mpr ⟨(⟨(y 0).val % 2, by omega⟩, ⟨(y 0).val / 2, by omega⟩), Finset.mem_univ _, mem_rowSet.mpr ?_⟩
  simp only [rowAt]; omega

/-- A whole output is its thirty-two rows, core by core. -/
theorem sq_rows (f : Outs.Idx → F .f32) :
    (sqLoc d ↦{fullShare} f : sProp 𝕄)
      = bigSep Finset.univ fun c : Fin 2 => bigSep Finset.univ fun s : Fin 16 => sqLoc d ↦[rowSet (rowAt (c, s))]{fullShare} f := by
  rw [← BI.bigSep_univ_prod (fun p : Fin 2 × Fin 16 => (sqLoc d ↦[rowSet (rowAt p)]{fullShare} f : sProp 𝕄)),
    ← pointsTo_biUnion Finset.univ (ℓ := sqLoc d) (fun p : Fin 2 × Fin 16 => rowSet (rowAt p)) rows_disjoint, rows_cover]; try rfl
theorem ct_rows (f : Outs.Idx → F .f32) :
    (ctLoc d ↦{fullShare} f : sProp 𝕄)
      = bigSep Finset.univ fun c : Fin 2 => bigSep Finset.univ fun s : Fin 16 => ctLoc d ↦[rowSet (rowAt (c, s))]{fullShare} f := by
  rw [← BI.bigSep_univ_prod (fun p : Fin 2 × Fin 16 => (ctLoc d ↦[rowSet (rowAt p)]{fullShare} f : sProp 𝕄)),
    ← pointsTo_biUnion Finset.univ (ℓ := ctLoc d) (fun p : Fin 2 × Fin 16 => rowSet (rowAt p)) rows_disjoint, rows_cover]; try rfl

/-! ## What the handshakes carry -/

variable (A : Dev nD → Found F)

/-- A core's share of what is read by all, and a subcore's. -/
abbrev coreShare (c : Fin 2) : PosShare TreeShare := leaf 1 fullShare c
abbrev taskShare (p : Fin 2 × Fin 16) : PosShare TreeShare := leaf 4 (coreShare p.1) p.2

/-- What is read by all, at share `q`. -/
abbrev Read (q : PosShare TreeShare) : sProp 𝕄 :=
  iprop((tabLoc d ↦{q} (A d).tab) ∗ (rowsLoc d ↦{q} (A d).rows) ∗ (labsLoc d ↦{q} (A d).labs))

/-- A task's rows of the outputs, at `f` and `g`; a core's rows; both outputs whole. -/
abbrev TaskRows (f g : Outs.Idx → F .f32) (p : Fin 2 × Fin 16) : sProp 𝕄 :=
  iprop((sqLoc d ↦[rowSet (rowAt p)]{fullShare} f) ∗ (ctLoc d ↦[rowSet (rowAt p)]{fullShare} g))
abbrev CoreRows (f g : Outs.Idx → F .f32) (c : Fin 2) : sProp 𝕄 := bigSep Finset.univ fun s : Fin 16 => TaskRows d f g (c, s)

theorem Read_leaves (n : ℕ) (q : PosShare TreeShare) :
    (Read d A q : sProp 𝕄) = bigSep Finset.univ fun i : Fin (2 ^ n) => Read d A (leaf n q i) := by
  unfold Read
  rw [bigSep_sep', bigSep_sep', ← pointsTo_leaves, ← pointsTo_leaves, ← pointsTo_leaves]

theorem outs_cores (f g : Outs.Idx → F .f32) :
    (iprop((sqLoc d ↦{fullShare} f) ∗ (ctLoc d ↦{fullShare} g)) : sProp 𝕄) = bigSep Finset.univ fun c : Fin 2 => CoreRows d f g c := by
  unfold CoreRows TaskRows
  rw [sq_rows, ct_rows, ← bigSep_sep']
  exact bigSep_congr fun c _ => (bigSep_sep' ..).symm

variable [FloatOps F]

/-- The task's sums and counts from what the launch finds. -/
abbrev leftSq : Outs.Idx → F .f32 := outSums (A d).tab (A d).rows (A d).labs
abbrev leftCt : Outs.Idx → F .f32 := outCounts (A d).labs

/-- Each core is handed its share of what is read and its rows of the outputs, each subcore its part of that; they bring
    the same back, the rows at the sums and the counts. -/
def P : (K (F := F)).Pay (nD := nD) (Val := Elt F) (Name := ℕ) (U := UU) where
  st := fun q d c => match q with
    | 0 => iprop(Read d A (coreShare (Fin.cast nCore_zero c)) ∗ CoreRows d (A d).sq (A d).ct (Fin.cast nCore_zero c))
  dn := fun q d c => match q with
    | 0 => iprop(Read d A (coreShare (Fin.cast nCore_zero c)) ∗ CoreRows d (leftSq d A) (leftCt d A) (Fin.cast nCore_zero c))
  go := fun q d c i => match q with
    | 0 => iprop(Read d A (taskShare (Fin.cast nCore_zero c, Fin.cast nSub_zero i)) ∗ TaskRows d (A d).sq (A d).ct (Fin.cast nCore_zero c, Fin.cast nSub_zero i))
  td := fun q d c i => match q with
    | 0 => iprop(Read d A (taskShare (Fin.cast nCore_zero c, Fin.cast nSub_zero i)) ∗ TaskRows d (leftSq d A) (leftCt d A) (Fin.cast nCore_zero c, Fin.cast nSub_zero i))
  x := fun _ _ => iprop(emp)

instance P_storable : (P A).IsStorable where
  st q d c := match q with
    | 0 => (inferInstance : BI.Storable (upEmb : UEmb _ 𝕄)
      iprop(Read d A (coreShare (Fin.cast nCore_zero c)) ∗ CoreRows d (A d).sq (A d).ct (Fin.cast nCore_zero c)))
  dn q d c := match q with
    | 0 => (inferInstance : BI.Storable (upEmb : UEmb _ 𝕄)
      iprop(Read d A (coreShare (Fin.cast nCore_zero c)) ∗ CoreRows d (leftSq d A) (leftCt d A) (Fin.cast nCore_zero c)))
  go q d c i := match q with
    | 0 => (inferInstance : BI.Storable (upEmb : UEmb _ 𝕄)
      iprop(Read d A (taskShare (Fin.cast nCore_zero c, Fin.cast nSub_zero i)) ∗ TaskRows d (A d).sq (A d).ct (Fin.cast nCore_zero c, Fin.cast nSub_zero i)))
  td q d c i := match q with
    | 0 => (inferInstance : BI.Storable (upEmb : UEmb _ 𝕄)
      iprop(Read d A (taskShare (Fin.cast nCore_zero c, Fin.cast nSub_zero i)) ∗ TaskRows d (leftSq d A) (leftCt d A) (Fin.cast nCore_zero c, Fin.cast nSub_zero i)))

omit [FloatOps F] in
theorem over_subs (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
/-- A core's part is its sixteen subcores' parts. -/
theorem core_tasks (f g : Outs.Idx → F .f32) (c : Fin 2) : (iprop(Read d A (coreShare c) ∗ CoreRows d f g c) : sProp 𝕄)
    = bigSep Finset.univ fun s : Fin 16 => iprop(Read d A (taskShare (c, s)) ∗ TaskRows d f g (c, s)) := by
  rw [Read_leaves d A 4 (coreShare c)]
  exact (bigSep_sep' ..).symm

theorem vecSplit : (K (F := F)).VecSplit' (P A) 0 := by
  intro d c
  show iprop(Read d A (coreShare (Fin.cast nCore_zero c)) ∗ CoreRows d (A d).sq (A d).ct (Fin.cast nCore_zero c)) ⊢ |={Set.univ}=> iprop(
      (bigSep Finset.univ fun i : Fin ((K (F := F)).nSub 0) =>
        iprop(Read d A (taskShare (Fin.cast nCore_zero c, Fin.cast nSub_zero i)) ∗ TaskRows d (A d).sq (A d).ct (Fin.cast nCore_zero c, Fin.cast nSub_zero i)))
      ∗ ((bigSep Finset.univ fun i : Fin ((K (F := F)).nSub 0) =>
          iprop(Read d A (taskShare (Fin.cast nCore_zero c, Fin.cast nSub_zero i)) ∗ TaskRows d (leftSq d A) (leftCt d A) (Fin.cast nCore_zero c, Fin.cast nSub_zero i)))
          -∗ iprop(Read d A (coreShare (Fin.cast nCore_zero c)) ∗ CoreRows d (leftSq d A) (leftCt d A) (Fin.cast nCore_zero c))))
  rw [over_subs (F := F) (fun i => iprop(Read d A (taskShare (Fin.cast nCore_zero c, i)) ∗ TaskRows d (A d).sq (A d).ct (Fin.cast nCore_zero c, i))),
    over_subs (F := F) (fun i => iprop(Read d A (taskShare (Fin.cast nCore_zero c, i)) ∗ TaskRows d (leftSq d A) (leftCt d A) (Fin.cast nCore_zero c, i))),
    ← core_tasks, ← core_tasks]
  iintro H; imodintro
  isplitl [H]; · iexact H
  iintro H; iexact H

/-! ## One task of the launch -/

section Tile

variable (L : grid0.Coords)

/-- The task's place: its core and its subcore. -/
abbrev place : Fin 2 × Fin 16 := (Fin.cast (show grid0.bound 0 = 2 from rfl) (L 0), Fin.cast (show grid0.bound 1 = 16 from rfl) (L 1))

theorem set_outSqRow : (outSqRow L).view.set = rowSet (rowAt (place L)) := by
  ext y
  refine (Finset.mem_map.trans ?_).trans mem_rowSet.symm
  constructor
  · rintro ⟨x, -, rfl⟩
    exact congrArg (fun y : Outs.Idx => (y 0).val) (row_emb L x)
  · intro h
    refine ⟨ix1 (y 1), Finset.mem_univ _, (row_emb L (ix1 (y 1))).trans ?_⟩
    exact (congrArg (fun w => ix2 w (y 1)) (Fin.ext h.symm)).trans (eq_ix2 y).symm
theorem set_outCtRow : (outCtRow L).view.set = rowSet (rowAt (place L)) := set_outSqRow L

/-- What a task is handed, and what it brings back. -/
theorem wp_place (hF : (K (F := F)).Facts) (hrows : ∀ d x, ((A d).rows x).toNat < 6225920)
    (O : CellTallies nD τ sig (HIx 1)) (W : Waits sig (HIx 1)) (hO : ∀ g, O g none = 0) :
    iprop(levAts (K (F := F)).L (K (F := F)).lev ∗ emp
        ∗ (Read d A (taskShare (place L)) ∗ TaskRows d (A d).sq (A d).ct (place L))
        ∗ scopedBufs (me d L) ∗ scopedSems0 (me d L) ∗ owes (me d L) O W)
      ⊢ wp frame (wpE (defs₀ (F := F)) 𝒱₀ (me d L) none) Set.univ (task L)
          fun _ => iprop((Read d A (taskShare (place L)) ∗ TaskRows d (leftSq d A) (leftCt d A) (place L))
            ∗ scopedBufs (me d L) ∗ scopedSems0 (me d L)
            ∗ ∃ W', ⌜∀ p ∈ W', p ∈ W ∨ p.2 = none⌝ ∗ owes (me d L) O W') := by
  obtain ⟨RB, hB⟩ := ownBufs_split (F := F) d L
  obtain ⟨RS, hS⟩ := ownSems_split (F := F) d L
  rw [(K (F := F)).scopedBufs_V hF d (cV L) (jV L), SparseCore.Cfg.scopedSems0_V (Val := Elt F) d (cV L) (jV L), hB, hS]
  unfold TaskRows
  rw [← set_outSqRow L]
  iintro ⟨Hlv, -, ⟨HR, Hrow⟩, ⟨Hb, Hb'⟩, ⟨Hs, Hs'⟩, HO⟩
  ihave Hmw := (show levAts (K (F := F)).L (K (F := F)).lev ⊢ Transfers.MayWaits (me d L) (default : HIx 1) O from (K (F := F)).mayWaits_none (thr := me d L) hO) $$ Hlv
  iapply (wp_wand_r frame _ _) $$ [HR Hrow Hb Hs HO Hmw Hb' Hs']
  isplitl [HR Hrow Hb Hs HO Hmw]
  · iapply (wp_task d L (q := taskShare (place L)) (tab := (A d).tab) (rows := (A d).rows) (labs := (A d).labs) (f := (A d).sq) (g := (A d).ct)
      (hrows d) (O := O) (W := W)) $$ [HR Hrow Hb Hs HO Hmw]
    isplitl [Hmw]; · iexact Hmw
    isplitl [HR]; · iexact HR
    isplitl [Hrow]; · iexact Hrow
    isplitl [Hb]; · iexact Hb
    isplitl [Hs]; · iexact Hs
    unfold Owed
    iexists W
    isplitr; · ipureintro; exact fun p hp => .inl hp
    iexact HO
  · iintro %_ ⟨HR, Hrow, Hb, Hs, HO⟩
    isplitl [HR Hrow]
    · isplitl [HR]; · iexact HR
      iexact Hrow
    isplitl [Hb Hb']; · iframe Hb Hb'
    isplitl [Hs Hs']; · iframe Hs Hs'
    unfold Owed
    iexact HO

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 () = SparseCore.onTile hcore0 hsub0 (fun c s => task (coordsV c s)) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  iframe HA HB HC
  iexists W'
  isplitr
  · ipureintro; exact fun p hp => (hW' p hp).imp_right Or.inl
  · iexact HO

set_option maxRecDepth 16384 in
theorem tileObl (hF : (K (F := F)).Facts) (hrows : ∀ d x, ((A d).rows x).toNat < 6225920) : (K (F := F)).TileObl (D (F := F)) 𝒱 (P A) v₀ 0 := by
  intro d c i O W hO _ _
  simp only [show (P A).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (wp_place d A (coordsV ⟨_, hci.1⟩ ⟨_, hci.2⟩) hF hrows O W hO).trans (wp_mono frame _ _ fun _ => obl_post)

end Tile

/-! ## The launch's own state -/

def u₀ : UU := (initOf (K (F := F)).hsCells (K (F := F)).hsToks, 1)

omit [FloatOps F] in
theorem no_parts {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P A).x q thr) := by
  unfold u₀
  rw [show (bigSep Finset.univ fun thr : Thread nD τ => bigSep Finset.univ fun q : Fin 1 => (P A).x q thr) = bigSep Finset.univ fun _ => iprop(emp) from
    bigSep_congr fun _ _ => bigSep_univ_of_subsingleton (0 : Fin 1), no_parts, no_parts]
  iintro Hu
  ihave H := (ownU_pair (initOf (K (F := F)).hsCells (K (F := F)).hsToks) (1 : Counters)) $$ Hu
  icases H with ⟨HH, -⟩
  imodintro
  isplitl [HH]; · iexact HH
  isplitr <;> iempintro

/-! ## The launch, seen from the TensorCore -/

theorem nCores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- The arrays as the launch finds them are what the cores are handed; what they bring back is the same arrays with the
    outputs at the sums and the counts. -/
theorem st_eq (d : Dev nD) : (bigSep Finset.univ fun c : Fin ((K (F := F)).nCore 0) => (P A).st 0 d c)
    = iprop(Read d A fullShare ∗ (sqLoc d ↦{fullShare} (A d).sq) ∗ (ctLoc d ↦{fullShare} (A d).ct)) := by
  rw [outs_cores, Read_leaves d A 1 fullShare]
  refine Eq.trans ?_ (bigSep_sep' ..)
  exact nCores (F := F) fun c => iprop(Read d A (coreShare c) ∗ CoreRows d (A d).sq (A d).ct c)
theorem dn_eq (d : Dev nD) : (bigSep Finset.univ fun c : Fin ((K (F := F)).nCore 0) => (P A).dn 0 d c)
    = iprop(Read d A fullShare ∗ (sqLoc d ↦{fullShare} leftSq d A) ∗ (ctLoc d ↦{fullShare} leftCt d A)) := by
  rw [outs_cores, Read_leaves d A 1 fullShare]
  refine Eq.trans ?_ (bigSep_sep' ..)
  exact nCores (F := F) fun c => iprop(Read d A (coreShare c) ∗ CoreRows d (leftSq d A) (leftCt d A) c)

end Cert.Proof.KernelIdeal

end
-- ==== Proof.PI.Host.lean ====
/-
  The program around the launch: the operations that lay out the table and name each position's row, and those that
  add the two outputs up and divide.
-/
module

public import proofs.«01_k».proof.Proof.PI.Launch

@[expose] public section

noncomputable section

namespace Cert.Proof.KernelIdeal

open Cert.KernelIdeal Cert.KernelIdeal.Gen
open Cert.Proof.Spec

open Idealize.ShloMosaic Idealize.ShloMosaic.ValueIdx Idealize.ShloMosaic.StableHlo

variable {F : FTy → Type} [FloatOps F]

/-- Before the launch: the labels with 255 read as 0, the scores laid out by class, and each position's row. -/
abbrev before : List (HloOp τ sig (Elt F)) :=
  [ nullary main_c (constantI S_ 32 255#32),
    unary main_c main_v0 (broadcastInDim S524288 ![] bcast_S_S524288 : (⟨S_, .i32⟩ : BufTy).Contents (Elt F) → (⟨S524288, .i32⟩ : BufTy).Contents (Elt F)),
    binary main_arg1 main_v0 main_v1 (cmpi .ne : (⟨S524288, .i32⟩ : BufTy).Contents (Elt F) → (⟨S524288, .i32⟩ : BufTy).Contents (Elt F) → (⟨S524288, .i1⟩ : BufTy).Contents (Elt F)),
    nullary main_c_0 (constantI S_ 32 0#32),
    TRef.unary (.of main_c_0) main_call0.v0 id,
    TRef.unary main_call0.v0 main_call0.v1 (broadcastInDim S524288 ![] bcast_S_S524288),
    TRef.ternary (.of main_v1) (.of main_arg1) main_call0.v1 main_call0.v2 select,
    unary main_arg0 main_v3 ((transpose S190x524288 [1, 0] · transposes_S524288x190_S190x524288_1_0) : (⟨S524288x190, .f32⟩ : BufTy).Contents (Elt F) → (⟨S190x524288, .f32⟩ : BufTy).Contents (Elt F)),
    reshape main_v3 main_v4 (rfl : (.f32 : EltTy) = .f32) shapeCasts_S190x524288_S6225920x16,
    nullary main_c_1 (constantI S_ 32 32768#32),
    unary main_c_1 main_v5 (broadcastInDim S524288 ![] bcast_S_S524288 : (⟨S_, .i32⟩ : BufTy).Contents (Elt F) → (⟨S524288, .i32⟩ : BufTy).Contents (Elt F)),
    binary main_v2 main_v5 main_v6 (muli : (⟨S524288, .i32⟩ : BufTy).Contents (Elt F) → (⟨S524288, .i32⟩ : BufTy).Contents (Elt F) → (⟨S524288, .i32⟩ : BufTy).Contents (Elt F)),
    nullary main_v7 (iotaInDim S524288 32 0),
    nullary main_c_2 (constantI S_ 32 16#32),
    TRef.unary (.of main_c_2) main_call1.v0 id,
    TRef.unary main_call1.v0 main_call1.v1 (broadcastInDim S524288 ![] bcast_S_S524288),
    TRef.binary (.of main_v7) main_call1.v1 main_call1.v2 Host.divsi,
    TRef.unary (.of main_v7) main_call1.v3 signi,
    TRef.unary main_call1.v0 main_call1.v4 signi,
    TRef.unary main_call1.v4 main_call1.v5 (broadcastInDim S524288 ![] bcast_S_S524288),
    TRef.binary main_call1.v3 main_call1.v5 main_call1.v6 (cmpi .ne),
    TRef.unary main_call1.v0 main_call1.v7 (broadcastInDim S524288 ![] bcast_S_S524288),
    TRef.binary (.of main_v7) main_call1.v7 main_call1.v8 Host.remsi,
    TRef.nullary main_call1.c (constantI S_ 32 0#32),
    TRef.unary main_call1.c main_call1.v9 (broadcastInDim S524288 ![] bcast_S_S524288),
    TRef.binary main_call1.v8 main_call1.v9 main_call1.v10 (cmpi .ne),
    TRef.binary main_call1.v6 main_call1.v10 main_call1.v11 andi,
    TRef.nullary main_call1.c_0 (constantI S_ 32 1#32),
    TRef.unary main_call1.c_0 main_call1.v12 (broadcastInDim S524288 ![] bcast_S_S524288),
    TRef.binary main_call1.v2 main_call1.v12 main_call1.v13 subi,
    TRef.ternary main_call1.v11 main_call1.v13 main_call1.v2 main_call1.call0.v0 select,
    binary main_v6 main_v8 main_v9 (addi : (⟨S524288, .i32⟩ : BufTy).Contents (Elt F) → (⟨S524288, .i32⟩ : BufTy).Contents (Elt F) → (⟨S524288, .i32⟩ : BufTy).Contents (Elt F)) ]

/-- After it: the outputs added up, and the quotient. -/
abbrev afterwards : List (HloOp τ sig (Elt F)) :=
  [ nullary main_cst (constant S_ .f32 0x00000000#32),
    binary main_v10_0 main_cst main_v11 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F)),
    nullary main_cst_3 (constant S_ .f32 0x00000000#32),
    binary main_v10_1 main_cst_3 main_v12 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F)),
    nullary main_cst_4 (constant S_ .f32 0x3F800000#32),
    binary main_v12 main_cst_4 main_v13 (maximumf : (⟨S_, .f32⟩ : BufTy).Contents (Elt F) → (⟨S_, .f32⟩ : BufTy).Contents (Elt F) → (⟨S_, .f32⟩ : BufTy).Contents (Elt F)),
    binary main_v11 main_v13 main_v14 (Host.divf : (⟨S_, .f32⟩ : BufTy).Contents (Elt F) → (⟨S_, .f32⟩ : BufTy).Contents (Elt F) → (⟨S_, .f32⟩ : BufTy).Contents (Elt F)) ]

set_option maxRecDepth 8192 in
theorem main_eq (d : Dev nD) : main (F := F) d
    = seqK before ((K (F := F)).run d 0 >>= fun _ => seqK afterwards (pure ⟨⟩)) := rfl

set_option maxRecDepth 8192 in
theorem before_sub : (before : List (HloOp τ sig (Elt F))).Forall fun op => op.bufs ⊆ tcRefs τ sig :=
  ⟨nullary_bufs_sub .., unary_bufs_sub .., binary_bufs_sub .., nullary_bufs_sub .., unary_bufs_sub .., unary_bufs_sub .., ternary_bufs_sub ..,
    unary_bufs_sub .., reshape_bufs_sub .., nullary_bufs_sub .., unary_bufs_sub .., binary_bufs_sub .., nullary_bufs_sub .., nullary_bufs_sub ..,
    unary_bufs_sub .., unary_bufs_sub .., binary_bufs_sub .., unary_bufs_sub .., unary_bufs_sub .., unary_bufs_sub .., binary_bufs_sub ..,
    unary_bufs_sub .., binary_bufs_sub .., nullary_bufs_sub .., unary_bufs_sub .., binary_bufs_sub .., binary_bufs_sub .., nullary_bufs_sub ..,
    unary_bufs_sub .., binary_bufs_sub .., ternary_bufs_sub .., binary_bufs_sub ..⟩
theorem afterwards_sub : (afterwards : List (HloOp τ sig (Elt F))).Forall fun op => op.bufs ⊆ tcRefs τ sig :=
  ⟨nullary_bufs_sub .., binary_bufs_sub .., nullary_bufs_sub .., binary_bufs_sub .., nullary_bufs_sub .., binary_bufs_sub .., binary_bufs_sub ..⟩

theorem before_fresh : (before : List (HloOp τ sig (Elt F))).Forall fun op => op.fresh = ∅ := by
  simp only [List.Forall]; repeat' constructor
theorem afterwards_fresh : (afterwards : List (HloOp τ sig (Elt F))).Forall fun op => op.fresh = ∅ := by
  simp only [List.Forall]; repeat' constructor

/-! ## What the operations leave -/

section Values

variable (V : Valuation τ sig (Elt F))

/-- Sixteen positions share a row of the table, so position `i` is in row `i / 16` of its class. -/
abbrev sixteenths : Positions.Idx → BitVec 32 :=
  select (andi (cmpi .ne (signi (iotaInDim S524288 32 0)) (broadcastInDim S524288 ![] bcast_S_S524288 (signi (constantI S_ 32 16#32))))
      (cmpi .ne (Host.remsi (iotaInDim S524288 32 0) (broadcastInDim S524288 ![] bcast_S_S524288 (constantI S_ 32 16#32)))
        (broadcastInDim S524288 ![] bcast_S_S524288 (constantI S_ 32 0#32))))
    (subi (Host.divsi (iotaInDim S524288 32 0) (broadcastInDim S524288 ![] bcast_S_S524288 (constantI S_ 32 16#32)))
      (broadcastInDim S524288 ![] bcast_S_S524288 (constantI S_ 32 1#32)))
    (Host.divsi (iotaInDim S524288 32 0) (broadcastInDim S524288 ![] bcast_S_S524288 (constantI S_ 32 16#32)))

/-- The labels with 255 read as 0. -/
abbrev classes (t : Positions.Idx → BitVec 32) : Positions.Idx → BitVec 32 :=
  select (cmpi .ne t (broadcastInDim S524288 ![] bcast_S_S524288 (constantI S_ 32 255#32))) t (broadcastInDim S524288 ![] bcast_S_S524288 (constantI S_ 32 0#32))

/-- Each position's row of the table. -/
abbrev rowNumbers (t : Positions.Idx → BitVec 32) : Positions.Idx → BitVec 32 :=
  addi (muli (classes t) (broadcastInDim S524288 ![] bcast_S_S524288 (constantI S_ 32 32768#32))) sixteenths

/-- The scores by class, sixteen positions a row. -/
abbrev table (x : (⟨2, ![524288, 190]⟩ : Shape).Idx → F .f32) : Table.Idx → F .f32 :=
  shapeCast S6225920x16 (transpose S190x524288 [1, 0] x transposes_S524288x190_S190x524288_1_0) shapeCasts_S190x524288_S6225920x16

/-- The quotient of the two outputs added up. -/
abbrev quotient (f g : Outs.Idx → F .f32) : S_.Idx → F .f32 :=
  Host.divf (Host.reduceAdd f (constant S_ .f32 0x00000000#32) reducesTo_S32x16_S_d0_1 h_S_)
    (maximumf (Host.reduceAdd g (constant S_ .f32 0x00000000#32) reducesTo_S32x16_S_d0_1 h_S_) (constant S_ .f32 0x3F800000#32))

set_option maxRecDepth 8192 in
set_option maxHeartbeats 2000000 in
theorem before_v4 : after before V (Proc.devRef .tc main_v4) = table (V (Proc.devRef .tc main_arg0)) := by
  simp only [before, TRef.binary, TRef.nullary, TRef.reshape, TRef.ternary, TRef.unary, TRef.toBuf, TRef.ofBuf, cast_eq]
  after_results_simp <;> rfl
set_option maxRecDepth 8192 in
set_option maxHeartbeats 2000000 in
theorem before_v9 : after before V (Proc.devRef .tc main_v9) = rowNumbers (V (Proc.devRef .tc main_arg1)) := by
  simp only [before, TRef.binary, TRef.nullary, TRef.reshape, TRef.ternary, TRef.unary, TRef.toBuf, TRef.ofBuf, cast_eq]
  after_results_simp <;> rfl
set_option maxRecDepth 8192 in
set_option maxHeartbeats 2000000 in
theorem before_args : after before V (Proc.devRef .tc main_arg0) = V (Proc.devRef .tc main_arg0) ∧ after before V (Proc.devRef .tc main_arg1) = V (Proc.devRef .tc main_arg1) := by
  simp only [before, TRef.binary, TRef.nullary, TRef.reshape, TRef.ternary, TRef.unary, TRef.toBuf, TRef.ofBuf, cast_eq]
  constructor <;> after_results_simp
set_option maxRecDepth 8192 in
set_option maxHeartbeats 2000000 in
theorem before_outs : after before V (Proc.devRef .tc main_v10_0) = V (Proc.devRef .tc main_v10_0) ∧ after before V (Proc.devRef .tc main_v10_1) = V (Proc.devRef .tc main_v10_1) := by
  simp only [before, TRef.binary, TRef.nullary, TRef.reshape, TRef.ternary, TRef.unary, TRef.toBuf, TRef.ofBuf, cast_eq]
  constructor <;> after_results_simp
theorem afterwards_v14 : after afterwards V (Proc.devRef .tc main_v14) = quotient (V (Proc.devRef .tc main_v10_0)) (V (Proc.devRef .tc main_v10_1)) := by
  after_results_simp <;> rfl
theorem afterwards_args : after afterwards V (Proc.devRef .tc main_arg0) = V (Proc.devRef .tc main_arg0) ∧ after afterwards V (Proc.devRef .tc main_arg1) = V (Proc.devRef .tc main_arg1) := by
  constructor <;> after_results_simp

end Values

end Cert.Proof.KernelIdeal

end
-- ==== Proof.PI.Run.lean ====
/-
  The whole program: the operations before the launch, the launch, the operations after it; and its run, from any memory
  in which every position's row number is in the table.
-/
module

public import proofs.«01_k».proof.Proof.PI.Host
public import Idealize.ShloMosaic.Lib.Pipeline.Frame

@[expose] public section

noncomputable section

namespace Cert.Proof.KernelIdeal

open Cert.KernelIdeal Cert.KernelIdeal.Gen
open Cert.Proof.Spec

open Idealize.ShloMosaic Idealize.ShloMosaic.ValueIdx Idealize.ShloMosaic.StableHlo
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The buffers -/

/-- The buffers a launch touches, and those a claim reads. -/
abbrev touched : Finset (DevRef τ sig) :=
  {Proc.devRef .tc main_v4, Proc.devRef .tc main_v9, Proc.devRef .tc main_arg1, Proc.devRef .tc main_v10_0, Proc.devRef .tc main_v10_1}
abbrev told : Finset (DevRef τ sig) := {Proc.devRef .tc main_arg0, Proc.devRef .tc main_arg1, Proc.devRef .tc main_v14}

theorem mem_all (r : Ref sig .tc) (h : ¬ (Proc.devRef .tc r : DevRef τ sig).isScoped) : (Proc.devRef .tc r : DevRef τ sig) ∈ Pipeline.ucRefs τ sig :=
  Finset.mem_filter.mpr ⟨devRef_mem_tcRefs r, h⟩

theorem touched_sub : touched ⊆ Pipeline.ucRefs τ sig := by
  intro b hb
  simp only [touched, Finset.mem_insert, Finset.mem_singleton] at hb
  rcases hb with rfl | rfl | rfl | rfl | rfl <;> exact mem_all _ (by decide)
theorem told_sub : told ⊆ Pipeline.ucRefs τ sig := by
  intro b hb
  simp only [told, Finset.mem_insert, Finset.mem_singleton] at hb
  rcases hb with rfl | rfl | rfl <;> exact mem_all _ (by decide)

variable (d : Dev nD)

theorem held_touched (W : Valuation τ sig (Elt F)) : (held (d.tc : Thread nD τ) touched W : sProp 𝕄)
    = iprop((tabLoc d ↦{fullShare} W (Proc.devRef .tc main_v4)) ∗ (rowsLoc d ↦{fullShare} W (Proc.devRef .tc main_v9))
        ∗ (labsLoc d ↦{fullShare} W (Proc.devRef .tc main_arg1)) ∗ (sqLoc d ↦{fullShare} W (Proc.devRef .tc main_v10_0))
        ∗ (ctLoc d ↦{fullShare} W (Proc.devRef .tc main_v10_1))) := by
  unfold held touched
  rw [SparseCore.bigSep_insert' (by decide), SparseCore.bigSep_insert' (by decide), SparseCore.bigSep_insert' (by decide),
    SparseCore.bigSep_insert' (by decide), bigSep_singleton]

abbrev scoresLoc : Loc nD τ sig := (d.tc : Thread nD τ).loc main_arg0
abbrev resLoc : Loc nD τ sig := (d.tc : Thread nD τ).loc main_v14

theorem held_told (W : Valuation τ sig (Elt F)) : (held (d.tc : Thread nD τ) told W : sProp 𝕄)
    = iprop((scoresLoc d ↦{fullShare} W (Proc.devRef .tc main_arg0)) ∗ (labsLoc d ↦{fullShare} W (Proc.devRef .tc main_arg1))
        ∗ (resLoc d ↦{fullShare} W (Proc.devRef .tc main_v14))) := by
  unfold held told
  rw [SparseCore.bigSep_insert' (by decide), SparseCore.bigSep_insert' (by decide), bigSep_singleton]

/-! ## The launch's arrays, from the memory the program starts in -/

variable [FloatOps F]
variable (m : (ℓ : Loc nD τ sig) → Buf (Elt F) ℓ) (ρ : Dev nD → PrngReg)

/-- What the launch finds. -/
abbrev found (d : Dev nD) : Found F :=
  ⟨table (m (scoresLoc d)), rowNumbers (m (labsLoc d)), m (labsLoc d), m (sqLoc d), m (ctLoc d)⟩

/-- The result. -/
abbrev answer (d : Dev nD) : S_.Idx → F .f32 := quotient (leftSq d (found m)) (leftCt d (found m))

/-- The buffers at the launch, and after it. -/
abbrev atLaunch : Valuation τ sig (Elt F) := after before fun b => m (d, b)
abbrev past : Valuation τ sig (Elt F) :=
  Function.update (Function.update (atLaunch d m) (Proc.devRef .tc main_v10_0) (leftSq d (found m))) (Proc.devRef .tc main_v10_1) (leftCt d (found m))

theorem past_of_ne (b : DevRef τ sig) (h0 : b ≠ Proc.devRef .tc main_v10_0) (h1 : b ≠ Proc.devRef .tc main_v10_1) : past d m b = atLaunch d m b :=
  (Function.update_of_ne h1 _ _).trans (Function.update_of_ne h0 _ _)
theorem past_sq : past d m (Proc.devRef .tc main_v10_0) = leftSq d (found m) :=
  (Function.update_of_ne (by decide) _ _).trans (Function.update_self _ _ _)
theorem past_ct : past d m (Proc.devRef .tc main_v10_1) = leftCt d (found m) := Function.update_self _ _ _

theorem atLaunch_tab : atLaunch d m (Proc.devRef .tc main_v4) = table (m (scoresLoc d)) := before_v4 _
theorem atLaunch_rows : atLaunch d m (Proc.devRef .tc main_v9) = rowNumbers (m (labsLoc d)) := before_v9 _
theorem atLaunch_scores : atLaunch d m (Proc.devRef .tc main_arg0) = m (scoresLoc d) := (before_args _).1
theorem atLaunch_labs : atLaunch d m (Proc.devRef .tc main_arg1) = m (labsLoc d) := (before_args _).2
theorem atLaunch_sq : atLaunch d m (Proc.devRef .tc main_v10_0) = m (sqLoc d) := (before_outs _).1
theorem atLaunch_ct : atLaunch d m (Proc.devRef .tc main_v10_1) = m (ctLoc d) := (before_outs _).2

/-- The launch's buffers, as it finds them and as it leaves them; the others stay. -/
theorem held_before : (held (d.tc : Thread nD τ) touched (atLaunch d m) : sProp 𝕄)
    = iprop((tabLoc d ↦{fullShare} (found m d).tab) ∗ (rowsLoc d ↦{fullShare} (found m d).rows) ∗ (labsLoc d ↦{fullShare} (found m d).labs)
        ∗ (sqLoc d ↦{fullShare} (found m d).sq) ∗ (ctLoc d ↦{fullShare} (found m d).ct)) := by
  rw [held_touched, atLaunch_tab, atLaunch_rows, atLaunch_labs, atLaunch_sq, atLaunch_ct]
theorem held_past : (held (d.tc : Thread nD τ) touched (past d m) : sProp 𝕄)
    = iprop((tabLoc d ↦{fullShare} (found m d).tab) ∗ (rowsLoc d ↦{fullShare} (found m d).rows) ∗ (labsLoc d ↦{fullShare} (found m d).labs)
        ∗ (sqLoc d ↦{fullShare} leftSq d (found m)) ∗ (ctLoc d ↦{fullShare} leftCt d (found m))) := by
  rw [held_touched, past_sq, past_ct, past_of_ne d m _ (by decide) (by decide), past_of_ne d m _ (by decide) (by decide),
    past_of_ne d m _ (by decide) (by decide), atLaunch_tab, atLaunch_rows, atLaunch_labs]
theorem held_others : (held (d.tc : Thread nD τ) (Pipeline.ucRefs τ sig \ touched) (atLaunch d m) : sProp 𝕄)
    = held (d.tc : Thread nD τ) (Pipeline.ucRefs τ sig \ touched) (past d m) :=
  held_congr (d.tc : Thread nD τ) fun b hb => (past_of_ne d m b
    (fun h => (Finset.mem_sdiff.mp hb).2 (by subst h; decide)) (fun h => (Finset.mem_sdiff.mp hb).2 (by subst h; decide))).symm

/-- What is left to tell: the arguments as they were, the result. -/
abbrev FIN (d : Dev nD) : sProp 𝕄 :=
  iprop((scoresLoc d ↦{fullShare} m (scoresLoc d)) ∗ (labsLoc d ↦{fullShare} m (labsLoc d)) ∗ (resLoc d ↦{fullShare} answer m d))

theorem held_end : (held (d.tc : Thread nD τ) told (after afterwards (past d m)) : sProp 𝕄) = FIN m d := by
  rw [held_told, (afterwards_args _).1, (afterwards_args _).2, afterwards_v14, past_sq, past_ct, past_of_ne d m _ (by decide) (by decide),
    past_of_ne d m _ (by decide) (by decide), atLaunch_scores, atLaunch_labs]

/-! ## The program on the TensorCore -/

theorem hmain (κ : GSem nD τ sig → ℕ) (d : Dev nD) :
    iprop((K (F := F)).ctx EH (P (found m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show unscopedBufs d (fun b => m ((SparseCore.T d : Thread nD τ).loc b)) = held (d.tc : Thread nD τ) (Pipeline.ucRefs τ sig) (fun b => m (d, b))
      from Pipeline.unscopedBufs_held d (fun b => m (d, b)), main_eq, ← seq_bind_seqK, ← seq_bind_seqK]
  iintro ⟨#Hctx, Hst, ⟨Hb, Hu, Hts, -⟩, -⟩
  iapply (wp_seq 𝒱 none Set.univ d (Pipeline.ucRefs τ sig) _ before
    (fun op h => Pipeline.sub_ucRefs op ((List.forall_iff_forall_mem.mp before_sub) op h))
    (fun op h => (List.forall_iff_forall_mem.mp before_fresh) op h) _) $$ [Hb Hu]
  · isplitl [Hb] <;> iassumption
  rw [held_sub_split (d.tc : Thread nD τ) touched_sub (atLaunch d m), held_before, held_others]
  iintro ⟨Hb, ⟨H4, H9, H1, Hsq, Hct⟩, Hu⟩
  rw [wp_bind]
  iapply ((K (F := F)).wp_run (D (F := F)) 𝒱 (EH := EH) (P := P (found m)) κ d 0) $$ [Hst H4 H9 H1 Hsq Hct Hb Hu Hts]
  isplitr; · iexact Hctx
  isplitl [Hst]; · iexact Hst
  isplitl [H4 H9 H1 Hsq Hct]
  · rw [st_eq]
    isplitl [H4 H9 H1]
    · isplitl [H4]; · iexact H4
      isplitl [H9] <;> iassumption
    isplitl [Hsq] <;> iassumption
  iintro ⟨Hst, Hdn⟩
  ihave Hdn := (Entails.of_eq (dn_eq (found m) d)) $$ Hdn
  icases Hdn with ⟨⟨H4, H9, H1⟩, Hsq, Hct⟩
  ihave Ht := (Entails.of_eq (held_past d m).symm) $$ [H4 H9 H1 Hsq Hct]
  · isplitl [H4]; · iexact H4
    isplitl [H9]; · iexact H9
    isplitl [H1]; · iexact H1
    isplitl [Hsq] <;> iassumption
  ihave Hu := (Entails.of_eq (held_sub_split (d.tc : Thread nD τ) touched_sub (past d m)).symm) $$ [Ht Hu]
  · isplitl [Ht] <;> iassumption
  iapply (wp_seq 𝒱 none Set.univ d (Pipeline.ucRefs τ sig) _ afterwards
    (fun op h => Pipeline.sub_ucRefs op ((List.forall_iff_forall_mem.mp afterwards_sub) op h))
    (fun op h => (List.forall_iff_forall_mem.mp afterwards_fresh) op h) _) $$ [Hb Hu]
  · isplitl [Hb] <;> iassumption
  rw [held_sub_split (d.tc : Thread nD τ) told_sub, held_end, wp_pure]
  iintro ⟨Hb, Ht, -⟩
  imodintro
  isplitl [Hst]; · iexact Hst
  isplitl [Ht]; · iexact Ht
  isplitl [Hb] <;> iassumption

/-! ## The run -/

def fq (d : Dev nD) (s' : Phys nD τ sig (Elt F)) : Prop :=
  s'.mem.mem (resLoc d) = answer m d ∧ s'.mem.mem (scoresLoc d) = m (scoresLoc d) ∧ s'.mem.mem (labsLoc d) = m (labsLoc d)

/-- A buffer held whole is what the memory has there. -/
theorem mem_of_held (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h, HSI, -⟩
  iframe HSI
  ipureintro; exact funext fun i => h i (Finset.mem_univ i)

theorem hfin (d : Dev nD) (s' : Phys nD τ sig (Elt F)) : iprop(FIN m d ∗ SI s') ⊢ (⌜fq m d s'⌝ : sProp 𝕄) := by
  iintro ⟨⟨H0, H1, Hr⟩, HSI⟩
  ihave H := (mem_of_held (scoresLoc d) (m (scoresLoc d)) s') $$ [H0 HSI]
  · isplitl [H0] <;> iassumption
  icases H with ⟨%h0, HSI⟩
  ihave H := (mem_of_held (labsLoc d) (m (labsLoc d)) s') $$ [H1 HSI]
  · isplitl [H1] <;> iassumption
  icases H with ⟨%h1, HSI⟩
  ihave H := (mem_of_held (resLoc d) (answer m d) s') $$ [Hr HSI]
  · isplitl [Hr] <;> iassumption
  icases H with ⟨%h2, -⟩
  ipureintro; exact ⟨h2, h0, h1⟩

/-- Every final state: the result, the arguments unchanged, every semaphore at zero. -/
def Ends : PUnit × MemSt nD τ sig (Elt F) → Prop := fun r =>
  (∀ c : Dev nD, r.2.mem (resLoc c) = answer m c ∧ r.2.mem (scoresLoc c) = m (scoresLoc c) ∧ r.2.mem (labsLoc c) = m (labsLoc c)) ∧ r.2.sem = fun _ => 0

theorem run_main [∀ e, Nonempty (Elt F e)] (hrows : ∀ d x, ((found m d).rows x).toNat < 6225920) :
    θ_run (defs (F := F)) (threads (F := F)) ⟨m, fun _ => 0, ρ⟩ (Ends m) :=
  SparseCore.Cfg.θ_run_sc_quiescent (K := K (F := F)) (D := D (F := F)) (𝒱 := 𝒱) (EH := EH) (P := P (found m)) (A := ∅) facts v₀
    (fun q hq => match q with | 0 => nomatch hq)
    (fun q _ => match q with | 0 => tileObl (found m) facts hrows)
    (fun q _ => match q with | 0 => SparseCore.Cfg.VecSplit.of_plain (vecSplit (found m)))
    m ρ main (fun _ => iprop(emp)) (FIN m) (u₀ (F := F)) (sep_elim_left.trans (hu₀ (found m))) (hmain m ρ) (fq m) (hfin m) (Ends m) (fun _ h hz => ⟨h, hz⟩)

end Cert.Proof.KernelIdeal

end
-- ==== Proof.PI.Frame.lean ====
/-
  The frame: from labels in range every position's row is in the table, so the whole program's run holds.
-/
module

public import proofs.«01_k».proof.Proof.PI.Run
public import proofs.«01_k».proof.Proof.Range

@[expose] public section

noncomputable section

namespace Cert.Proof.KernelIdeal

open Cert.KernelIdeal Cert.KernelIdeal.Gen
open Cert.Proof.Spec

open Idealize.ShloMosaic Idealize.ShloMosaic.ValueIdx

variable {F : FTy → Type} [FloatOps F]
variable (m : (ℓ : Loc nD τ sig) → Buf (Elt F) ℓ)

/-- The number of a position's row. -/
theorem found_row (d : Dev nD) (x : Positions.Idx) (h : Labelled ((found m d).labs x)) :
    ((found m d).rows x).toNat = (classOf ((found m d).labs x)).val * 32768 + (x 0).val / 16 :=
  row_at bcast_S_S524288 (found m d).labs x h

/-- Every row is in the table. -/
theorem rows_lt (h : ∀ d x, Labelled ((found m d).labs x)) (d : Dev nD) (x : Positions.Idx) : ((found m d).rows x).toNat < 6225920 := by
  rw [found_row m d x (h d x)]
  have h1 := (classOf ((found m d).labs x)).isLt
  have h2 : (x 0).val < 524288 := (x 0).isLt
  omega

/-- The run, from labels in range. -/
theorem run_labelled [∀ e, Nonempty (Elt F e)] (ρ : Dev nD → PrngReg) (h : ∀ d x, Labelled ((found m d).labs x)) :
    θ_run (defs (F := F)) (threads (F := F)) ⟨m, fun _ => 0, ρ⟩ (Ends m) := run_main m ρ (rows_lt m h)

end Cert.Proof.KernelIdeal

end
-- ==== Proof.Totals.lean ====
/-
  The kernel's sums and counts as sums of extended reals over all positions.
-/
module

public import proofs.«01_k».proof.Proof.Words
public import Idealize.ShloMosaic.Lib.ValueLayout
public import Idealize.ShloMosaic.Lib.IdealHost
public import Idealize.ShloMosaic.PureOps.Ideal.Laws

@[expose] public section

noncomputable section

open scoped BigOperators

namespace Cert.Proof.Spec

open Idealize.ShloMosaic Idealize.ShloMosaic.ValueIdx

/-- What a position adds to the sum, and to the count: nothing under the ignored label. -/
def squareOf (t : BitVec 32) (v : EReal) : EReal := if t = 255#32 then 0 else (1 - v) * (1 - v)
def oneOf (t : BitVec 32) : EReal := if t = 255#32 then 0 else 1

/-- A selection on "the label is not 255". -/
theorem select_counted {α : Type} (t : BitVec 32) (a b : α) :
    Scalar.select (IntOp.cmpi .ne t 255#32) a b = if t = 255#32 then b else a := by
  rw [ne_bit]
  by_cases e : t = 255#32
  · rw [if_pos e, if_pos e, select_zero]
  · rw [if_neg e, if_neg e, select_one]

theorem one_word : (Scalar.ofBits .f32 0x3F800000#32 : Ideal .f32) = (1 : EReal) := Ideal.ofBits_one_f32
theorem zero_word : (Scalar.ofBits .f32 0x00000000#32 : Ideal .f32) = (0 : EReal) := Ideal.ofBits_zero_f32

theorem addSquare_at (a v : FVec Ideal Lanes .f32) (t : IVec Lanes 32) (x : Lanes.Idx) :
    addSquare (F := Ideal) a t v x = (a x + squareOf (t x) (v x) : EReal) := by
  show (a x + Scalar.select (IntOp.cmpi .ne (t x) 255#32)
    (((Scalar.ofBits .f32 0x3F800000#32 : Ideal .f32) - v x) * ((Scalar.ofBits .f32 0x3F800000#32 : Ideal .f32) - v x))
    (Scalar.ofBits .f32 0x00000000#32 : Ideal .f32) : EReal) = _
  rw [select_counted, one_word, zero_word]
  rfl

theorem addOne_at (c : FVec Ideal Lanes .f32) (t : IVec Lanes 32) (x : Lanes.Idx) :
    addOne (F := Ideal) c t x = (c x + oneOf (t x) : EReal) := by
  show (c x + Scalar.select (IntOp.cmpi .ne (t x) 255#32) (Scalar.ofBits .f32 0x3F800000#32 : Ideal .f32)
    (Scalar.ofBits .f32 0x00000000#32 : Ideal .f32) : EReal) = _
  rw [select_counted, one_word, zero_word]
  rfl

theorem sums_at (tab : Table.Idx → Ideal .f32) (fi ft : Strip.Idx → BitVec 32) (x : Lanes.Idx) : ∀ n : ℕ,
    sums (F := Ideal) tab fi ft n x = (∑ k ∈ Finset.range n, squareOf (labels ft k x) (values (F := Ideal) tab fi k x) : EReal)
  | 0 => zero_word
  | n + 1 => by
    rw [Finset.sum_range_succ, ← sums_at tab fi ft x n]
    exact addSquare_at _ _ _ x

theorem counts_at (ft : Strip.Idx → BitVec 32) (x : Lanes.Idx) : ∀ n : ℕ,
    counts (F := Ideal) ft n x = (∑ k ∈ Finset.range n, oneOf (labels ft k x) : EReal)
  | 0 => zero_word
  | n + 1 => by
    rw [Finset.sum_range_succ, ← counts_at ft x n]
    exact addOne_at _ _ x

/-! ## All positions, strip by strip and lane by lane -/

theorem sum_blocks {M : Type} [AddCommMonoid M] (a b : ℕ) (h : ℕ → M) :
    ∑ i : Fin a, ∑ j : Fin b, h (b * i.val + j.val) = ∑ n : Fin (a * b), h n.val := by
  rw [← finProdFinEquiv.sum_comp, Fintype.sum_prod_type]
  refine Finset.sum_congr rfl fun i _ => Finset.sum_congr rfl fun j _ => ?_
  rw [finProdFinEquiv_apply_val, Nat.add_comm]

theorem sum_regroup {M : Type} [AddCommMonoid M] (h : ℕ → M) :
    ∑ y : Outs.Idx, ∑ k ∈ Finset.range 1024, h (16384 * (y 0).val + (16 * k + (y 1).val)) = ∑ p : Positions.Idx, h (p 0).val := by
  rw [sum_idx2, ← idxEquiv1.symm.sum_comp]
  show _ = ∑ n : Fin (32 * 16384), h n.val
  rw [← sum_blocks 32 16384]
  refine Finset.sum_congr rfl fun w _ => ?_
  show ∑ l : Fin 16, ∑ k ∈ Finset.range 1024, h (16384 * w.val + (16 * k + l.val)) = ∑ j : Fin (1024 * 16), h (16384 * w.val + j.val)
  rw [← sum_blocks 1024 16 (fun n => h (16384 * w.val + n)), Finset.sum_comm, Finset.sum_range]

/-- Position `n`, wrapped past the end. -/
def position (n : ℕ) : Fin 524288 := ⟨n % 524288, Nat.mod_lt _ (by decide)⟩

theorem strip_at {α : Type} (f : Positions.Idx → α) (w : Fin 32) (k : ℕ) (l : Fin 16) (hk : k < 1024) :
    strip f w (ix1 (spot (16 * k + l.val))) = f (ix1 (position (16384 * w.val + (16 * k + l.val)))) := by
  refine congrArg f (congrArg ix1 (Fin.ext ?_))
  have h1 := w.isLt
  have h2 := l.isLt
  show 16384 * w.val + (16 * k + l.val) % 16384 = (16384 * w.val + (16 * k + l.val)) % 524288
  omega

theorem positions_eq {M : Type} [AddCommMonoid M] (g : Positions.Idx → M) :
    ∑ p : Positions.Idx, g (ix1 (position (p 0).val)) = ∑ p : Positions.Idx, g p :=
  Finset.sum_congr rfl fun p _ => by
    conv_rhs => rw [eq_ix1 p]
    refine congrArg g (congrArg ix1 (Fin.ext ?_))
    exact Nat.mod_eq_of_lt (p 0).isLt

/-- The counts, added up. -/
theorem total_counts (labs : IVec Positions 32) :
    (∑ y : Outs.Idx, outCounts (F := Ideal) labs y : EReal) = ∑ p : Positions.Idx, oneOf (labs p) := by
  rw [← positions_eq, ← sum_regroup fun n => oneOf (labs (ix1 (position n)))]
  refine Finset.sum_congr rfl fun y _ => ?_
  refine (counts_at (strip labs (y 0)) (ix1 (y 1)) 1024).trans (Finset.sum_congr rfl fun k hk => ?_)
  exact congrArg oneOf (strip_at labs (y 0) k (y 1) (Finset.mem_range.mp hk))

/-! ## The table -/

abbrev Scores : Shape := ⟨2, ![524288, 190]⟩
abbrev Classes : Shape := ⟨2, ![190, 524288]⟩

/-- Position `p`'s score for class `c` lies in row `32768 c + p / 16`, at lane `p mod 16`. -/
theorem table_at {α : Type} (x : Scores.Idx → α) (ht : Scores.Transposes [1, 0] Classes) (hc : Classes.ShapeCasts Table)
    (p : Fin 524288) (c : Fin 190) (r : Fin 6225920) (l : Fin 16) (hr : r.val = c.val * 32768 + p.val / 16) (hl : l.val = p.val % 16) :
    shapeCast Table (transpose Classes [1, 0] x ht) hc (ix2 r l) = x (ix2 p c) := by
  refine (shapeCast_apply _ hc (ix2 r l) (ix2 c p) ?_).trans (transpose_ix2_apply x ht c p)
  rw [Shape.rowMajor_val_two, Shape.rowMajor_val_two]
  show c.val * 524288 + p.val = r.val * 16 + l.val
  omega

/-- The sums, added up: each position adds the square of its label's score. -/
theorem total_sums (x : Scores.Idx → EReal) (ht : Scores.Transposes [1, 0] Classes) (hc : Classes.ShapeCasts Table)
    (rows labs : IVec Positions 32) (hrows : ∀ p, (rows p).toNat = (classOf (labs p)).val * 32768 + (p 0).val / 16) :
    (∑ y : Outs.Idx, outSums (F := Ideal) (shapeCast Table (transpose Classes [1, 0] x ht) hc) rows labs y : EReal)
      = ∑ p : Positions.Idx, squareOf (labs p) (x (ix2 (p 0) (classOf (labs p)))) := by
  rw [← positions_eq, ← sum_regroup fun n => squareOf (labs (ix1 (position n))) (x (ix2 (position n) (classOf (labs (ix1 (position n))))))]
  refine Finset.sum_congr rfl fun y _ => ?_
  refine (sums_at _ (strip rows (y 0)) (strip labs (y 0)) (ix1 (y 1)) 1024).trans (Finset.sum_congr rfl fun k hk => ?_)
  have hk' := Finset.mem_range.mp hk
  refine congrArg₂ squareOf (strip_at labs (y 0) k (y 1) hk') ?_
  show shapeCast Table (transpose Classes [1, 0] x ht) hc (ix2 (rowOf (strip rows (y 0) (ix1 (spot (16 * k + (y 1).val))))) (y 1)) = _
  rw [strip_at rows (y 0) k (y 1) hk']
  have hr := hrows (ix1 (position (16384 * (y 0).val + (16 * k + (y 1).val))))
  have hlt := (classOf (labs (ix1 (position (16384 * (y 0).val + (16 * k + (y 1).val)))))).isLt
  have hw : (y 0).val < 32 := (y 0).isLt
  have hl : (y 1).val < 16 := (y 1).isLt
  have hp : (position (16384 * (y 0).val + (16 * k + (y 1).val))).val = 16384 * (y 0).val + (16 * k + (y 1).val) :=
    Nat.mod_eq_of_lt (by omega)
  refine table_at x ht hc _ _ _ _ ?_ ?_
  · rw [rowOf_val] <;> rw [hr]
    show _ + (position _).val / 16 < _
    omega
  · rw [hp]; omega

/-- The mean over the positions that count, as one quotient; over one position when none does. -/
def mean (a b : EReal) : EReal := Ideal.div (0 + a) (max (0 + b) 1)

/-- That quotient as both programs print it: two arrays added up from zero, the second held to at least one. -/
theorem mean_at {s : Shape} {axes : List (Fin s.rank)} (f g : FVec Ideal s .f32) (h : s.ReducesTo axes Scalars) (hu : 0 < Scalars.numel) (j : Scalars.Idx) :
    Host.divf (Host.reduceAdd f (constant Scalars .f32 0x00000000#32) h hu)
      (maximumf (Host.reduceAdd g (constant Scalars .f32 0x00000000#32) h hu) (constant Scalars .f32 0x3F800000#32)) j
      = mean (∑ i, f i) (∑ i, g i) := by
  rw [hostDivf_apply, ValueIdx.maximumf_apply, hostReduceAdd_apply, hostReduceAdd_apply,
    Ideal.hostReduceAdd_total _ (fun b => b.elim0), Ideal.hostReduceAdd_total _ (fun b => b.elim0), ValueIdx.constant_apply, ValueIdx.constant_apply,
    Ideal.ofBits_zero_f32, Ideal.ofBits_one_f32]
  rfl

end Cert.Proof.Spec

end
-- ==== Proof.Reference.lean ====
/-
  The reference's value, position by position: each position's score for the class its label reads, whenever every label
  is a class or 255.
-/
module

public import proofs.«01_k».proof.Proof.Totals
public import proofs.«01_k».proof.Proof.Gen.ReferenceIdeal.Run
public import Idealize.ShloMosaic.Lib.ReduceAll

@[expose] public section

noncomputable section

open scoped BigOperators

namespace Cert.Proof.Reference

open Cert.ReferenceIdeal Cert.ReferenceIdeal.Gen Cert.ReferenceIdeal.Value
open Cert.Proof.Spec

open Idealize.ShloMosaic Idealize.ShloMosaic.ValueIdx

/-! ## The reference's operations, named -/

variable (x : Scores.Idx → EReal) (t : IVec Positions 32)

/-- The classes, as a column. -/
def column : IVec S524288x1 32 :=
  broadcastInDim S524288x1 ![0] bcast_S524288_S524288x1_0 (select (cmpi .ne t (broadcastInDim S524288 ![] bcast_S_S524288 (constantI S_ 32 255#32))) t
    (broadcastInDim S524288 ![] bcast_S_S524288 (id (constantI S_ 32 0#32))))

/-- The classes to look up, a negative one counted from the end. -/
def lookup : IVec S524288x1x1 32 :=
  shapeCast S524288x1x1 (select (cmpi .slt (column t) (broadcastInDim S524288x1 ![] bcast_S_S524288x1 (constantI S_ 32 0#32)))
    (addi (column t) (broadcastInDim S524288x1 ![] bcast_S_S524288x1 (constantI S_ 32 190#32))) (column t)) shapeCasts_S524288x1_S524288x1x1

/-- Which of them are classes. -/
def isClass : IVec S524288x1x1 1 :=
  andi (cmpi .sge (lookup t) (broadcastInDim S524288x1x1 ![] bcast_S_S524288x1x1 (constantI S_ 32 0#32)))
    (cmpi .sle (lookup t) (broadcastInDim S524288x1x1 ![0, 1, 2] bcast_S1x1x1_S524288x1x1_0_1_2 (broadcastInDim S1x1x1 ![2] bcast_S1_S1x1x1_2 (constantI S1 32 189#32))))

/-- The scores looked up. -/
def picked : FVec Ideal S524288 .f32 :=
  shapeCast S524288 (select (Host.reduce IntOp.andi (isClass t) (constantI S_ 1 1#1) reducesTo_S524288x1x1_S524288x1_d2 h_S_)
    (Host.gather gather_S524288x190_S524288x1x1_S524288x1_n_1_0_0_1_2_11 x (lookup t))
    (broadcastInDim S524288x1 ![] bcast_S_S524288x1 (constant S_ .f32 0x7FC00000#32))) shapeCasts_S524288x1_S524288

/-- Their distances from one, and the weights. -/
def distance : FVec Ideal S524288 .f32 := subf (broadcastInDim S524288 ![] bcast_S_S524288 (constant S_ .f32 0x3F800000#32)) (picked x t)
def weight : FVec Ideal S524288 .f32 := uitofp .f32 (cmpi .ne t (broadcastInDim S524288 ![] bcast_S_S524288 (constantI S_ 32 255#32)))

/-- The reference's result in those names. -/
theorem res_eq (m : (ℓ : Loc nD τ sig) → Buf (Elt Ideal) ℓ) (c : Dev nD)
    (hx : m ((c.tc : Thread nD τ).loc main_arg0) = x) (ht : m ((c.tc : Thread nD τ).loc main_arg1) = t) :
    res_main_v14 m c = Host.divf (Host.reduceAdd (mulf (mulf (distance x t) (distance x t)) (weight t)) (constant S_ .f32 0x00000000#32) reducesTo_S524288_S_d0 h_S_)
      (maximumf (Host.reduceAdd (weight t) (constant S_ .f32 0x00000000#32) reducesTo_S524288_S_d0 h_S_) (constant S_ .f32 0x3F800000#32)) := by
  subst hx ht
  unfold res_main_v14 distance picked isClass lookup column weight
  rfl

/-! ## Read at a position -/

/-- A class is not negative, is at most 189, and reads as its number. -/
theorem class_word : ∀ c : Fin 190, IntOp.cmpi .slt (BitVec.ofNat 32 c.val) 0#32 = 0#1
    ∧ IntOp.andi (IntOp.cmpi .sge (BitVec.ofNat 32 c.val) 0#32) (IntOp.cmpi .sle (BitVec.ofNat 32 c.val) 189#32) = 1#1
    ∧ (BitVec.ofNat 32 c.val).toInt.toNat = c.val := by decide

theorem column_at (p : Fin 524288) (u : Fin 1) (h : Labelled (t (ix1 p))) : column t (ix2 p u) = BitVec.ofNat 32 (classOf (t (ix1 p))).val := by
  unfold column
  refine (broadcastInDim_apply _ _ _ (ix2 p u) (ix1 p) fun a => ?_).trans (classes_at bcast_S_S524288 t (ix1 p) h)
  match a with
  | ⟨0, _⟩ => rfl

theorem lookup_at (p : Fin 524288) (u v : Fin 1) (h : Labelled (t (ix1 p))) : lookup t (ix3 p u v) = BitVec.ofNat 32 (classOf (t (ix1 p))).val := by
  refine (shapeCast_apply _ shapeCasts_S524288x1_S524288x1x1 (ix3 p u v) (ix2 p u) ?_).trans ?_
  · rw [Shape.rowMajor_val_two, Shape.rowMajor_val_three]
    show p.val * 1 + u.val = (p.val * 1 + u.val) * 1 + v.val
    omega
  · show Scalar.select (IntOp.cmpi .slt (column t (ix2 p u)) 0#32) _ (column t (ix2 p u)) = _
    rw [column_at t p u h, (class_word _).1, select_zero]

theorem isClass_at (h : ∀ i, Labelled (t i)) (i : S524288x1x1.Idx) : isClass t i = 1#1 := by
  rw [eq_ix3 i]
  show IntOp.andi (IntOp.cmpi .sge (lookup t (ix3 (i 0) (i 1) (i 2))) 0#32) (IntOp.cmpi .sle (lookup t (ix3 (i 0) (i 1) (i 2))) 189#32) = 1#1
  rw [lookup_at t (i 0) (i 1) (i 2) (h _)]
  exact (class_word _).2.1

/-- The look-up along the classes: at position `p`, the score at the class its index names, held to at most 189. -/
theorem gather_at {α : Type} (y : Scores.Idx → α) (idx : IVec S524288x1x1 32) (p : Fin 524288) (u : Fin 1) :
    Host.gather gather_S524288x190_S524288x1x1_S524288x1_n_1_0_0_1_2_11 y idx (ix2 p u)
      = y (ix2 p ⟨min (idx (ix3 p u 0)).toInt.toNat 189, by omega⟩) := by
  refine congrArg y (funext fun a => Fin.ext ?_)
  match a with
  | ⟨0, _⟩ =>
    have h0 : (0 : Fin Scores.rank) ∈ gather_S524288x190_S524288x1x1_S524288x1_n_1_0_0_1_2_11.operandBatchingDims := List.mem_singleton.mpr rfl
    show gather_S524288x190_S524288x1x1_S524288x1_n_1_0_0_1_2_11.start (ix2 p u) idx 0
      + gather_S524288x190_S524288x1x1_S524288x1_n_1_0_0_1_2_11.batchCoord (ix2 p u) 0
      + gather_S524288x190_S524288x1x1_S524288x1_n_1_0_0_1_2_11.offCoord (ix2 p u) 0 = p.val
    rw [GatherDims.start_batching _ _ _ _ h0, GatherDims.offCoord_eq_zero _ _ _ fun k => ((GatherDims.mem_sKept _ _).mp k).2 h0,
      Nat.zero_add, Nat.add_zero]
    unfold GatherDims.batchCoord
    rw [dif_pos h0]
    rfl
  | ⟨1, _⟩ =>
    refine congrArg (fun j => min (idx j).toInt.toNat 189) (funext fun b => ?_)
    match b with
    | ⟨0, _⟩ => rfl
    | ⟨1, _⟩ => rfl
    | ⟨2, _⟩ => rfl

theorem picked_at (h : ∀ i, Labelled (t i)) (p : Fin 524288) : picked x t (ix1 p) = x (ix2 p (classOf (t (ix1 p)))) := by
  refine (shapeCast_apply _ shapeCasts_S524288x1_S524288 (ix1 p) (ix2 p (0 : Fin 1)) ?_).trans ?_
  · rw [Shape.rowMajor_val_two, Shape.rowMajor_val_one]
    show p.val * 1 + 0 = p.val
    omega
  · rw [select_apply, Host.reduce_andi_one (isClass t) _ _ h_S_ _ rfl (isClass_at t h), select_one, gather_at]
    refine congrArg x (congrArg (ix2 p) (Fin.ext ?_))
    have hc := (classOf (t (ix1 p))).isLt
    show min (lookup t (ix3 p 0 0)).toInt.toNat 189 = _
    rw [lookup_at t p 0 0 (h _), (class_word _).2.2]
    omega

/-- A weight is one, and zero under the ignored label. -/
theorem weight_at (i : Positions.Idx) : weight t i = (oneOf (t i) : EReal) := by
  have hbit : ∀ b : BitVec 32, (((IntOp.cmpi .ne b 255#32).toNat : ℝ) : EReal) = oneOf b := fun b => by
    rw [ne_bit]
    unfold oneOf
    split <;> simp
  exact hbit (t i)

/-- A distance from one, of any scores. -/
theorem from_one (f : FVec Ideal S524288 .f32) (i : Positions.Idx) :
    subf (broadcastInDim S524288 ![] bcast_S_S524288 (constant S_ .f32 0x3F800000#32)) f i = (1 - f i : EReal) := by
  rw [ValueIdx.subf_apply, broadcastInDim_scalar_apply, ValueIdx.constant_apply, Ideal.ofBits_one_f32]

theorem distance_at (h : ∀ i, Labelled (t i)) (p : Fin 524288) : distance x t (ix1 p) = (1 - x (ix2 p (classOf (t (ix1 p)))) : EReal) := by
  unfold distance
  rw [from_one, picked_at x t h]

/-- A square weighted by one or zero. -/
theorem weighted (b : BitVec 32) (v : EReal) : (1 - v) * (1 - v) * oneOf b = squareOf b v := by
  unfold oneOf squareOf
  split
  · exact mul_zero _
  · exact mul_one _

theorem square_at (h : ∀ i, Labelled (t i)) (p : Fin 524288) :
    mulf (mulf (distance x t) (distance x t)) (weight t) (ix1 p) = (squareOf (t (ix1 p)) (x (ix2 p (classOf (t (ix1 p))))) : EReal) := by
  rw [ValueIdx.mulf_apply, ValueIdx.mulf_apply, distance_at x t h, weight_at]
  exact weighted _ _

/-! ## The result -/

theorem res_at (m : (ℓ : Loc nD τ sig) → Buf (Elt Ideal) ℓ) (c : Dev nD)
    (hx : m ((c.tc : Thread nD τ).loc main_arg0) = x) (ht : m ((c.tc : Thread nD τ).loc main_arg1) = t) (h : ∀ i, Labelled (t i)) (j : S_.Idx) :
    res_main_v14 m c j = mean (∑ i : Positions.Idx, squareOf (t i) (x (ix2 (i 0) (classOf (t i))))) (∑ i : Positions.Idx, oneOf (t i)) := by
  rw [res_eq x t m c hx ht]
  refine (mean_at (mulf (mulf (distance x t) (distance x t)) (weight t)) (weight t) reducesTo_S524288_S_d0 h_S_ j).trans ?_
  refine congrArg₂ mean (Finset.sum_congr rfl fun i _ => ?_) (Finset.sum_congr rfl fun i _ => weight_at t i)
  obtain ⟨p, rfl⟩ : ∃ p : Fin 524288, i = ix1 p := ⟨i 0, eq_ix1 i⟩
  exact square_at x t h p

end Cert.Proof.Reference

end
-- ==== Proof.Equal.lean ====
/-
  The kernel's result and the reference's are the same extended real.
-/
module

public import proofs.«01_k».proof.Proof.PI.Frame
public import proofs.«01_k».proof.Proof.Reference

@[expose] public section

noncomputable section

open scoped BigOperators

namespace Cert.Proof.KernelIdeal

open Cert.KernelIdeal Cert.KernelIdeal.Gen
open Cert.Proof.Spec

open Idealize.ShloMosaic Idealize.ShloMosaic.ValueIdx

variable (m : (ℓ : Loc nD τ sig) → Buf (Elt Ideal) ℓ)

/-- The kernel's result: the mean of the squares of the positions that count. -/
theorem answer_at (d : Dev nD) (x : Scores.Idx → EReal) (t : IVec Positions 32) (hx : m (scoresLoc d) = x) (ht : (found m d).labs = t)
    (h : ∀ i, Labelled (t i)) (j : S_.Idx) :
    answer m d j = mean (∑ i : Positions.Idx, squareOf (t i) (x (ix2 (i 0) (classOf (t i))))) (∑ i : Positions.Idx, oneOf (t i)) := by
  subst hx ht
  refine (mean_at (leftSq d (found m)) (leftCt d (found m)) reducesTo_S32x16_S_d0_1 h_S_ j).trans ?_
  exact congrArg₂ mean
    (total_sums (m (scoresLoc d)) transposes_S524288x190_S190x524288_1_0 shapeCasts_S190x524288_S6225920x16 (found m d).rows (found m d).labs
      fun p => found_row m d p (h p))
    (total_counts (found m d).labs)

end Cert.Proof.KernelIdeal

end
-- ==== Proof.lean ====
/-
  The claims: the kernel runs and leaves its arguments and every semaphore as they were, at both float instances; the
  reference likewise; and at the extended reals both end with the same result.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_range
public import proofs.«01_k».proof.Proof.P.Frame
public import proofs.«01_k».proof.Proof.PI.Frame
public import proofs.«01_k».proof.Proof.Equal
public import Idealize.ShloMosaic.Lib.Quiescent
public import Idealize.ShloMosaic.Adequacy
public import Idealize.ShloMosaic.Init

@[expose] public section

noncomputable section

namespace Cert.Proof

open Idealize.ShloMosaic Idealize.SL.Sem
open Cert.Proof.Spec

/-- The kernel's frame. -/
theorem frame_kernel : Cert.quiescent_Kernel := fun m ρ h =>
  (θ_run _ _ _).mono (fun _ e => ⟨fun c => (e.1 c).2, e.2⟩) (Kernel.run_labelled m ρ fun d x => labelled_of_pre _ _ (h d) x)

/-- The frame of the kernel read at the extended reals. -/
theorem frame_kernelIdeal : Cert.quiescent_KernelIdeal := fun m ρ h =>
  (θ_run _ _ _).mono (fun _ e => ⟨fun c => (e.1 c).2, e.2⟩) (KernelIdeal.run_labelled m ρ fun d x => labelled_of_pre _ _ (h d) x)

/-- The reference's frame: it declares no semaphore. -/
theorem frame_reference : Cert.quiescent_ReferenceIdeal := fun m ρ _ =>
  (θ_run _ _ _).mono (fun r e => ⟨fun c => (e c).2, sem_eq_zero_of_no_sems rfl r.2⟩) (Cert.ReferenceIdeal.Value.run m ρ)

/-- The two results are equal. -/
theorem equal : Cert.algebraic_KernelIdeal_ReferenceIdeal := fun m ρ m' ρ' h hm => by
  have hl : ∀ d x, Labelled ((KernelIdeal.found m d).labs x) := fun d x => labelled_of_pre _ _ (h d) x
  refine ⟨fun c => KernelIdeal.answer m c, (θ_run _ _ _).mono (fun _ e => e.1) (KernelIdeal.run_labelled m ρ hl),
    (θ_run _ _ _).mono (fun _ e c => ⟨(e c).1.trans (funext fun j => ?_), (e c).2⟩) (Cert.ReferenceIdeal.Value.run m' ρ')⟩
  exact (Reference.res_at _ _ m' c (hm c).1 (hm c).2 (hl c) j).trans (KernelIdeal.answer_at m c _ _ rfl rfl (hl c) j).symm

theorem claim : Cert.Claim :=
  ⟨Cert.Kernel.Gen.facts, Cert.KernelIdeal.Gen.facts, Cert.ReferenceIdeal.Gen.facts, Cert.Pre_in_range.Gen.facts,
    frame_kernel, frame_kernelIdeal, frame_reference, fun m ρ _ => frame_reference m ρ trivial, trivial, equal⟩

end Cert.Proof

end
